-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x21x768 : Shape := ⟨3, ![4096, 21, 768]⟩
abbrev S1 : Shape := ⟨1, ![1]⟩
abbrev S12x16 : Shape := ⟨2, ![12, 16]⟩
abbrev S32x20x3x3 : Shape := ⟨4, ![32, 20, 3, 3]⟩
abbrev S32 : Shape := ⟨1, ![32]⟩
abbrev S64x32x3x3 : Shape := ⟨4, ![64, 32, 3, 3]⟩
abbrev S64 : Shape := ⟨1, ![64]⟩
abbrev S3x1920 : Shape := ⟨2, ![3, 1920]⟩
abbrev S3 : Shape := ⟨1, ![3]⟩
abbrev S3x3x20x32 : Shape := ⟨4, ![3, 3, 20, 32]⟩
abbrev S180x32 : Shape := ⟨2, ![180, 32]⟩
abbrev S3x3x32x64 : Shape := ⟨4, ![3, 3, 32, 64]⟩
abbrev S288x64 : Shape := ⟨2, ![288, 64]⟩
abbrev S3x64x6x5 : Shape := ⟨4, ![3, 64, 6, 5]⟩
abbrev S6x5x64x3 : Shape := ⟨4, ![6, 5, 64, 3]⟩
abbrev S1920x3 : Shape := ⟨2, ![1920, 3]⟩
abbrev S1x32 : Shape := ⟨2, ![1, 32]⟩
abbrev S1x64 : Shape := ⟨2, ![1, 64]⟩
abbrev S1x3 : Shape := ⟨2, ![1, 3]⟩
abbrev S4096x3 : Shape := ⟨2, ![4096, 3]⟩
abbrev S16x21x768 : Shape := ⟨3, ![16, 21, 768]⟩
abbrev S16x3 : Shape := ⟨2, ![16, 3]⟩
abbrev S16x21 : Shape := ⟨2, ![16, 21]⟩
abbrev S16x21x1 : Shape := ⟨3, ![16, 21, 1]⟩
abbrev S16x21x21 : Shape := ⟨3, ![16, 21, 21]⟩
abbrev S16x20x20 : Shape := ⟨3, ![16, 20, 20]⟩
abbrev S16x20x16x20 : Shape := ⟨4, ![16, 20, 16, 20]⟩
abbrev S16x20x1x20 : Shape := ⟨4, ![16, 20, 1, 20]⟩
abbrev S1x16 : Shape := ⟨2, ![1, 16]⟩
abbrev S16 : Shape := ⟨1, ![16]⟩
abbrev S1x1x16x1 : Shape := ⟨4, ![1, 1, 16, 1]⟩
abbrev S16x2x16x20 : Shape := ⟨4, ![16, 2, 16, 20]⟩
abbrev S16x22x16x20 : Shape := ⟨4, ![16, 22, 16, 20]⟩
abbrev S16x24x16x20 : Shape := ⟨4, ![16, 24, 16, 20]⟩
abbrev S16x24x2x20 : Shape := ⟨4, ![16, 24, 2, 20]⟩
abbrev S16x24x18x20 : Shape := ⟨4, ![16, 24, 18, 20]⟩
abbrev S16x24x20x20 : Shape := ⟨4, ![16, 24, 20, 20]⟩
abbrev S16x22x18x20 : Shape := ⟨4, ![16, 22, 18, 20]⟩
abbrev S16x22x18x180 : Shape := ⟨4, ![16, 22, 18, 180]⟩
abbrev S6336x180 : Shape := ⟨2, ![6336, 180]⟩
abbrev S6336x32 : Shape := ⟨2, ![6336, 32]⟩
abbrev S16x22x18x32 : Shape := ⟨4, ![16, 22, 18, 32]⟩
abbrev S16x11x2x18x32 : Shape := ⟨5, ![16, 11, 2, 18, 32]⟩
abbrev S16x11x1x18x32 : Shape := ⟨5, ![16, 11, 1, 18, 32]⟩
abbrev S16x11x18x32 : Shape := ⟨4, ![16, 11, 18, 32]⟩
abbrev S16x11x9x2x32 : Shape := ⟨5, ![16, 11, 9, 2, 32]⟩
abbrev S16x11x9x1x32 : Shape := ⟨5, ![16, 11, 9, 1, 32]⟩
abbrev S16x11x9x32 : Shape := ⟨4, ![16, 11, 9, 32]⟩
abbrev S16x2x9x32 : Shape := ⟨4, ![16, 2, 9, 32]⟩
abbrev S16x13x9x32 : Shape := ⟨4, ![16, 13, 9, 32]⟩
abbrev S16x15x9x32 : Shape := ⟨4, ![16, 15, 9, 32]⟩
abbrev S16x15x2x32 : Shape := ⟨4, ![16, 15, 2, 32]⟩
abbrev S16x15x11x32 : Shape := ⟨4, ![16, 15, 11, 32]⟩
abbrev S16x15x13x32 : Shape := ⟨4, ![16, 15, 13, 32]⟩
abbrev S16x13x11x32 : Shape := ⟨4, ![16, 13, 11, 32]⟩
abbrev S16x13x11x288 : Shape := ⟨4, ![16, 13, 11, 288]⟩
abbrev S2288x288 : Shape := ⟨2, ![2288, 288]⟩
abbrev S2288x64 : Shape := ⟨2, ![2288, 64]⟩
abbrev S16x13x11x64 : Shape := ⟨4, ![16, 13, 11, 64]⟩
abbrev S16x12x11x64 : Shape := ⟨4, ![16, 12, 11, 64]⟩
abbrev S16x6x2x11x64 : Shape := ⟨5, ![16, 6, 2, 11, 64]⟩
abbrev S16x6x1x11x64 : Shape := ⟨5, ![16, 6, 1, 11, 64]⟩
abbrev S16x6x11x64 : Shape := ⟨4, ![16, 6, 11, 64]⟩
abbrev S16x6x10x64 : Shape := ⟨4, ![16, 6, 10, 64]⟩
abbrev S16x6x5x2x64 : Shape := ⟨5, ![16, 6, 5, 2, 64]⟩
abbrev S16x6x5x1x64 : Shape := ⟨5, ![16, 6, 5, 1, 64]⟩
abbrev S16x6x5x64 : Shape := ⟨4, ![16, 6, 5, 64]⟩
abbrev S16x1920 : Shape := ⟨2, ![16, 1920]⟩

abbrev nBuf : Space → Nat
  | .hbm => 22
  | .vmem => 11
  | .smem => 0
  | _ => 0

abbrev bufTy : (tb : Table) → Fin (tcTables nBuf tb) → BufTy
  | .hbm, ⟨0, _⟩ => ⟨S4096x21x768, .f32⟩
  | .hbm, ⟨1, _⟩ => ⟨S1, .i32⟩
  | .hbm, ⟨2, _⟩ => ⟨S1, .i32⟩
  | .hbm, ⟨3, _⟩ => ⟨S1, .i32⟩
  | .hbm, ⟨4, _⟩ => ⟨S12x16, .f32⟩
  | .hbm, ⟨5, _⟩ => ⟨S32x20x3x3, .f32⟩
  | .hbm, ⟨6, _⟩ => ⟨S32, .f32⟩
  | .hbm, ⟨7, _⟩ => ⟨S64x32x3x3, .f32⟩
  | .hbm, ⟨8, _⟩ => ⟨S64, .f32⟩
  | .hbm, ⟨9, _⟩ => ⟨S3x1920, .f32⟩
  | .hbm, ⟨10, _⟩ => ⟨S3, .f32⟩
  | .hbm, ⟨11, _⟩ => ⟨S3x3x20x32, .f32⟩
  | .hbm, ⟨12, _⟩ => ⟨S180x32, .f32⟩
  | .hbm, ⟨13, _⟩ => ⟨S3x3x32x64, .f32⟩
  | .hbm, ⟨14, _⟩ => ⟨S288x64, .f32⟩
  | .hbm, ⟨15, _⟩ => ⟨S3x64x6x5, .f32⟩
  | .hbm, ⟨16, _⟩ => ⟨S6x5x64x3, .f32⟩
  | .hbm, ⟨17, _⟩ => ⟨S1920x3, .f32⟩
  | .hbm, ⟨18, _⟩ => ⟨S1x32, .f32⟩
  | .hbm, ⟨19, _⟩ => ⟨S1x64, .f32⟩
  | .hbm, ⟨20, _⟩ => ⟨S1x3, .f32⟩
  | .hbm, ⟨21, _⟩ => ⟨S4096x3, .f32⟩
  | .local _ .vmem, ⟨0, _⟩ => ⟨S16x21x768, .f32⟩
  | .local _ .vmem, ⟨1, _⟩ => ⟨S16x21x768, .f32⟩
  | .local _ .vmem, ⟨2, _⟩ => ⟨S12x16, .f32⟩
  | .local _ .vmem, ⟨3, _⟩ => ⟨S180x32, .f32⟩
  | .local _ .vmem, ⟨4, _⟩ => ⟨S1x32, .f32⟩
  | .local _ .vmem, ⟨5, _⟩ => ⟨S288x64, .f32⟩
  | .local _ .vmem, ⟨6, _⟩ => ⟨S1x64, .f32⟩
  | .local _ .vmem, ⟨7, _⟩ => ⟨S1920x3, .f32⟩
  | .local _ .vmem, ⟨8, _⟩ => ⟨S1x3, .f32⟩
  | .local _ .vmem, ⟨9, _⟩ => ⟨S16x3, .f32⟩
  | .local _ .vmem, ⟨10, _⟩ => ⟨S16x3, .f32⟩
  | _, _ => ⟨S4096x21x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x21x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S180x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S288x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1920x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x21x768 : Shape := ⟨3, ![4096, 21, 768]⟩
abbrev S1 : Shape := ⟨1, ![1]⟩
abbrev S12x16 : Shape := ⟨2, ![12, 16]⟩
abbrev S32x20x3x3 : Shape := ⟨4, ![32, 20, 3, 3]⟩
abbrev S32 : Shape := ⟨1, ![32]⟩
abbrev S64x32x3x3 : Shape := ⟨4, ![64, 32, 3, 3]⟩
abbrev S64 : Shape := ⟨1, ![64]⟩
abbrev S3x1920 : Shape := ⟨2, ![3, 1920]⟩
abbrev S3 : Shape := ⟨1, ![3]⟩
abbrev S_ : Shape := ⟨0, ![]⟩
abbrev S4096x21 : Shape := ⟨2, ![4096, 21]⟩
abbrev S4096x21x1 : Shape := ⟨3, ![4096, 21, 1]⟩
abbrev S4096x21x21 : Shape := ⟨3, ![4096, 21, 21]⟩
abbrev S4096x20x20 : Shape := ⟨3, ![4096, 20, 20]⟩
abbrev S4096x20x20x1 : Shape := ⟨4, ![4096, 20, 20, 1]⟩
abbrev S4096x20x20x16 : Shape := ⟨4, ![4096, 20, 20, 16]⟩
abbrev S4096x20x24x20 : Shape := ⟨4, ![4096, 20, 24, 20]⟩
abbrev S4096x20x22x18 : Shape := ⟨4, ![4096, 20, 22, 18]⟩
abbrev S32x20x1x1 : Shape := ⟨4, ![32, 20, 1, 1]⟩
abbrev S32x20 : Shape := ⟨2, ![32, 20]⟩
abbrev S32x4096x22x18 : Shape := ⟨4, ![32, 4096, 22, 18]⟩
abbrev S4096x32x22x18 : Shape := ⟨4, ![4096, 32, 22, 18]⟩
abbrev S1x32x1x1 : Shape := ⟨4, ![1, 32, 1, 1]⟩
abbrev S4096x32x11x9 : Shape := ⟨4, ![4096, 32, 11, 9]⟩
abbrev S4096x32x15x13 : Shape := ⟨4, ![4096, 32, 15, 13]⟩
abbrev S4096x32x13x11 : Shape := ⟨4, ![4096, 32, 13, 11]⟩
abbrev S64x32x1x1 : Shape := ⟨4, ![64, 32, 1, 1]⟩
abbrev S64x32 : Shape := ⟨2, ![64, 32]⟩
abbrev S64x4096x13x11 : Shape := ⟨4, ![64, 4096, 13, 11]⟩
abbrev S4096x64x13x11 : Shape := ⟨4, ![4096, 64, 13, 11]⟩
abbrev S1x64x1x1 : Shape := ⟨4, ![1, 64, 1, 1]⟩
abbrev S4096x64x6x5 : Shape := ⟨4, ![4096, 64, 6, 5]⟩
abbrev S4096x1920 : Shape := ⟨2, ![4096, 1920]⟩
abbrev S1920x3 : Shape := ⟨2, ![1920, 3]⟩
abbrev S4096x3 : Shape := ⟨2, ![4096, 3]⟩
abbrev S1x3 : Shape := ⟨2, ![1, 3]⟩

abbrev nBuf : Space → Nat
  | .hbm => 196
  | .vmem => 0
  | .smem => 0
  | _ => 0

abbrev hbmTy0_0 (i : Nat) : BufTy := match i % 128 with
  | 0 => ⟨S4096x21x768, .f32⟩
  | 1 => ⟨S1, .i32⟩
  | 2 => ⟨S1, .i32⟩
  | 3 => ⟨S1, .i32⟩
  | 4 => ⟨S12x16, .f32⟩
  | 5 => ⟨S32x20x3x3, .f32⟩
  | 6 => ⟨S32, .f32⟩
  | 7 => ⟨S64x32x3x3, .f32⟩
  | 8 => ⟨S64, .f32⟩
  | 9 => ⟨S3x1920, .f32⟩
  | 10 => ⟨S3, .f32⟩
  | 11 => ⟨S4096x21x768, .f32⟩
  | 12 => ⟨S_, .f32⟩
  | 13 => ⟨S4096x21, .f32⟩
  | 14 => ⟨S4096x21x1, .f32⟩
  | 15 => ⟨S4096x21x1, .f32⟩
  | 16 => ⟨S_, .f32⟩
  | 17 => ⟨S4096x21x1, .f32⟩
  | 18 => ⟨S4096x21x1, .f32⟩
  | 19 => ⟨S4096x21x768, .f32⟩
  | 20 => ⟨S4096x21x768, .f32⟩
  | 21 => ⟨S4096x21x21, .f32⟩
  | 22 => ⟨S4096x20x20, .f32⟩
  | 23 => ⟨S_, .f32⟩
  | 24 => ⟨S4096x20x20, .f32⟩
  | 25 => ⟨S4096x20x20, .f32⟩
  | 26 => ⟨S4096x20x20, .f32⟩
  | 27 => ⟨S_, .f32⟩
  | 28 => ⟨S4096x20x20, .f32⟩
  | 29 => ⟨S4096x20x20, .f32⟩
  | 30 => ⟨S4096x20x20, .i32⟩
  | 31 => ⟨S_, .f32⟩
  | 32 => ⟨S4096x20x20, .f32⟩
  | 33 => ⟨S4096x20x20, .i1⟩
  | 34 => ⟨S_, .f32⟩
  | 35 => ⟨S4096x20x20, .f32⟩
  | 36 => ⟨S4096x20x20, .i1⟩
  | 37 => ⟨S_, .i32⟩
  | 38 => ⟨S_, .i32⟩
  | 39 => ⟨S4096x20x20, .i32⟩
  | 40 => ⟨S4096x20x20, .i32⟩
  | 41 => ⟨S_, .i32⟩
  | 42 => ⟨S_, .i32⟩
  | 43 => ⟨S4096x20x20, .i32⟩
  | 44 => ⟨S4096x20x20, .i32⟩
  | 45 => ⟨S_, .i32⟩
  | 46 => ⟨S4096x20x20, .i32⟩
  | 47 => ⟨S4096x20x20, .i1⟩
  | 48 => ⟨S_, .i32⟩
  | 49 => ⟨S4096x20x20, .i32⟩
  | 50 => ⟨S4096x20x20, .i32⟩
  | 51 => ⟨S4096x20x20, .i32⟩
  | 52 => ⟨S4096x20x20x1, .i32⟩
  | 53 => ⟨S4096x20x20x16, .f32⟩
  | 54 => ⟨S_, .i32⟩
  | 55 => ⟨S_, .f32⟩
  | 56 => ⟨S4096x20x24x20, .f32⟩
  | 57 => ⟨S4096x20x22x18, .f32⟩
  | 58 => ⟨S32x20x1x1, .f32⟩
  | 59 => ⟨S32x20, .f32⟩
  | 60 => ⟨S32x4096x22x18, .f32⟩
  | 61 => ⟨S4096x32x22x18, .f32⟩
  | 62 => ⟨S_, .f32⟩
  | 63 => ⟨S4096x32x22x18, .f32⟩
  | 64 => ⟨S4096x32x22x18, .f32⟩
  | 65 => ⟨S4096x20x22x18, .f32⟩
  | 66 => ⟨S32x20x1x1, .f32⟩
  | 67 => ⟨S32x20, .f32⟩
  | 68 => ⟨S32x4096x22x18, .f32⟩
  | 69 => ⟨S4096x32x22x18, .f32⟩
  | 70 => ⟨S4096x32x22x18, .f32⟩
  | 71 => ⟨S4096x20x22x18, .f32⟩
  | 72 => ⟨S32x20x1x1, .f32⟩
  | 73 => ⟨S32x20, .f32⟩
  | 74 => ⟨S32x4096x22x18, .f32⟩
  | 75 => ⟨S4096x32x22x18, .f32⟩
  | 76 => ⟨S4096x32x22x18, .f32⟩
  | 77 => ⟨S4096x20x22x18, .f32⟩
  | 78 => ⟨S32x20x1x1, .f32⟩
  | 79 => ⟨S32x20, .f32⟩
  | 80 => ⟨S32x4096x22x18, .f32⟩
  | 81 => ⟨S4096x32x22x18, .f32⟩
  | 82 => ⟨S4096x32x22x18, .f32⟩
  | 83 => ⟨S4096x20x22x18, .f32⟩
  | 84 => ⟨S32x20x1x1, .f32⟩
  | 85 => ⟨S32x20, .f32⟩
  | 86 => ⟨S32x4096x22x18, .f32⟩
  | 87 => ⟨S4096x32x22x18, .f32⟩
  | 88 => ⟨S4096x32x22x18, .f32⟩
  | 89 => ⟨S4096x20x22x18, .f32⟩
  | 90 => ⟨S32x20x1x1, .f32⟩
  | 91 => ⟨S32x20, .f32⟩
  | 92 => ⟨S32x4096x22x18, .f32⟩
  | 93 => ⟨S4096x32x22x18, .f32⟩
  | 94 => ⟨S4096x32x22x18, .f32⟩
  | 95 => ⟨S4096x20x22x18, .f32⟩
  | 96 => ⟨S32x20x1x1, .f32⟩
  | 97 => ⟨S32x20, .f32⟩
  | 98 => ⟨S32x4096x22x18, .f32⟩
  | 99 => ⟨S4096x32x22x18, .f32⟩
  | 100 => ⟨S4096x32x22x18, .f32⟩
  | 101 => ⟨S4096x20x22x18, .f32⟩
  | 102 => ⟨S32x20x1x1, .f32⟩
  | 103 => ⟨S32x20, .f32⟩
  | 104 => ⟨S32x4096x22x18, .f32⟩
  | 105 => ⟨S4096x32x22x18, .f32⟩
  | 106 => ⟨S4096x32x22x18, .f32⟩
  | 107 => ⟨S4096x20x22x18, .f32⟩
  | 108 => ⟨S32x20x1x1, .f32⟩
  | 109 => ⟨S32x20, .f32⟩
  | 110 => ⟨S32x4096x22x18, .f32⟩
  | 111 => ⟨S4096x32x22x18, .f32⟩
  | 112 => ⟨S4096x32x22x18, .f32⟩
  | 113 => ⟨S1x32x1x1, .f32⟩
  | 114 => ⟨S4096x32x22x18, .f32⟩
  | 115 => ⟨S4096x32x22x18, .f32⟩
  | 116 => ⟨S_, .f32⟩
  | 117 => ⟨S4096x32x22x18, .f32⟩
  | 118 => ⟨S4096x32x22x18, .f32⟩
  | 119 => ⟨S_, .f32⟩
  | 120 => ⟨S_, .f32⟩
  | 121 => ⟨S4096x32x11x9, .f32⟩
  | 122 => ⟨S_, .i32⟩
  | 123 => ⟨S_, .f32⟩
  | 124 => ⟨S4096x32x15x13, .f32⟩
  | 125 => ⟨S4096x32x13x11, .f32⟩
  | 126 => ⟨S64x32x1x1, .f32⟩
  | 127 => ⟨S64x32, .f32⟩
  | _ => ⟨S4096x21x768, .f32⟩

abbrev hbmTy0_1 (i : Nat) : BufTy := match i % 128 with
  | 0 => ⟨S64x4096x13x11, .f32⟩
  | 1 => ⟨S4096x64x13x11, .f32⟩
  | 2 => ⟨S_, .f32⟩
  | 3 => ⟨S4096x64x13x11, .f32⟩
  | 4 => ⟨S4096x64x13x11, .f32⟩
  | 5 => ⟨S4096x32x13x11, .f32⟩
  | 6 => ⟨S64x32x1x1, .f32⟩
  | 7 => ⟨S64x32, .f32⟩
  | 8 => ⟨S64x4096x13x11, .f32⟩
  | 9 => ⟨S4096x64x13x11, .f32⟩
  | 10 => ⟨S4096x64x13x11, .f32⟩
  | 11 => ⟨S4096x32x13x11, .f32⟩
  | 12 => ⟨S64x32x1x1, .f32⟩
  | 13 => ⟨S64x32, .f32⟩
  | 14 => ⟨S64x4096x13x11, .f32⟩
  | 15 => ⟨S4096x64x13x11, .f32⟩
  | 16 => ⟨S4096x64x13x11, .f32⟩
  | 17 => ⟨S4096x32x13x11, .f32⟩
  | 18 => ⟨S64x32x1x1, .f32⟩
  | 19 => ⟨S64x32, .f32⟩
  | 20 => ⟨S64x4096x13x11, .f32⟩
  | 21 => ⟨S4096x64x13x11, .f32⟩
  | 22 => ⟨S4096x64x13x11, .f32⟩
  | 23 => ⟨S4096x32x13x11, .f32⟩
  | 24 => ⟨S64x32x1x1, .f32⟩
  | 25 => ⟨S64x32, .f32⟩
  | 26 => ⟨S64x4096x13x11, .f32⟩
  | 27 => ⟨S4096x64x13x11, .f32⟩
  | 28 => ⟨S4096x64x13x11, .f32⟩
  | 29 => ⟨S4096x32x13x11, .f32⟩
  | 30 => ⟨S64x32x1x1, .f32⟩
  | 31 => ⟨S64x32, .f32⟩
  | 32 => ⟨S64x4096x13x11, .f32⟩
  | 33 => ⟨S4096x64x13x11, .f32⟩
  | 34 => ⟨S4096x64x13x11, .f32⟩
  | 35 => ⟨S4096x32x13x11, .f32⟩
  | 36 => ⟨S64x32x1x1, .f32⟩
  | 37 => ⟨S64x32, .f32⟩
  | 38 => ⟨S64x4096x13x11, .f32⟩
  | 39 => ⟨S4096x64x13x11, .f32⟩
  | 40 => ⟨S4096x64x13x11, .f32⟩
  | 41 => ⟨S4096x32x13x11, .f32⟩
  | 42 => ⟨S64x32x1x1, .f32⟩
  | 43 => ⟨S64x32, .f32⟩
  | 44 => ⟨S64x4096x13x11, .f32⟩
  | 45 => ⟨S4096x64x13x11, .f32⟩
  | 46 => ⟨S4096x64x13x11, .f32⟩
  | 47 => ⟨S4096x32x13x11, .f32⟩
  | 48 => ⟨S64x32x1x1, .f32⟩
  | 49 => ⟨S64x32, .f32⟩
  | 50 => ⟨S64x4096x13x11, .f32⟩
  | 51 => ⟨S4096x64x13x11, .f32⟩
  | 52 => ⟨S4096x64x13x11, .f32⟩
  | 53 => ⟨S1x64x1x1, .f32⟩
  | 54 => ⟨S4096x64x13x11, .f32⟩
  | 55 => ⟨S4096x64x13x11, .f32⟩
  | 56 => ⟨S_, .f32⟩
  | 57 => ⟨S4096x64x13x11, .f32⟩
  | 58 => ⟨S4096x64x13x11, .f32⟩
  | 59 => ⟨S_, .f32⟩
  | 60 => ⟨S_, .f32⟩
  | 61 => ⟨S4096x64x6x5, .f32⟩
  | 62 => ⟨S4096x1920, .f32⟩
  | 63 => ⟨S1920x3, .f32⟩
  | 64 => ⟨S4096x3, .f32⟩
  | 65 => ⟨S1x3, .f32⟩
  | 66 => ⟨S4096x3, .f32⟩
  | 67 => ⟨S4096x3, .f32⟩
  | _ => ⟨S4096x21x768, .f32⟩

abbrev hbmTy (i : Nat) : BufTy := match i / 128 with
  | 0 => hbmTy0_0 i
  | 1 => hbmTy0_1 i
  | _ => ⟨S4096x21x768, .f32⟩

abbrev bufTy : (tb : Table) → Fin (tcTables nBuf tb) → BufTy
  | .hbm, ⟨i, _⟩ => hbmTy i
  | _, _ => ⟨S4096x21x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_v20 : Ref sig .tc := ⟨.hbm, 40, rfl⟩
abbrev main_c_5 : Ref sig .tc := ⟨.hbm, 41, rfl⟩
abbrev main_call1_v0 : Ref sig .tc := ⟨.hbm, 42, rfl⟩
abbrev main_call1_v1 : Ref sig .tc := ⟨.hbm, 43, rfl⟩
abbrev main_v21 : Ref sig .tc := ⟨.hbm, 44, rfl⟩
abbrev main_c_6 : Ref sig .tc := ⟨.hbm, 45, rfl⟩
abbrev main_v22 : Ref sig .tc := ⟨.hbm, 46, rfl⟩
abbrev main_v23 : Ref sig .tc := ⟨.hbm, 47, rfl⟩
abbrev main_c_7 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_8 : Ref sig .tc := ⟨.hbm, 54, rfl⟩
abbrev main_call2_v0 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_9 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_call3_cst : Ref sig .tc := ⟨.hbm, 116, rfl⟩
abbrev main_call3_v0 : Ref sig .tc := ⟨.hbm, 117, rfl⟩
abbrev main_v88 : Ref sig .tc := ⟨.hbm, 118, rfl⟩
abbrev main_cst_10 : Ref sig .tc := ⟨.hbm, 119, rfl⟩
abbrev main_v89 : Ref sig .tc := ⟨.hbm, 120, rfl⟩
abbrev main_v90 : Ref sig .tc := ⟨.hbm, 121, rfl⟩
abbrev main_c_11 : Ref sig .tc := ⟨.hbm, 122, rfl⟩
abbrev main_call4_v0 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_12 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_call5_cst : Ref sig .tc := ⟨.hbm, 184, rfl⟩
abbrev main_call5_v0 : Ref sig .tc := ⟨.hbm, 185, rfl⟩
abbrev main_v150 : Ref sig .tc := ⟨.hbm, 186, rfl⟩
abbrev main_cst_13 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩

abbrev nD : Nat := 1
abbrev τ : Topo := Topo.v7x

variable {F : FTy → Type} [FloatOps F]
-- ==== Proof.Network.lean ====
/-
  The network in plain mathematics over the extended reals: the cosine table of one essay, its buckets, the picture
  that the bucket table gives, two rounds of convolution, rectifier and 2 × 2 maximum, and the last linear map. Pictures
  are functions of a channel and two natural numbers, so that no index carries a proof; what stands outside a picture's
  box is cut off by the padding.
-/
module

public import Idealize.ShloMosaic.Lib.Pointwise

@[expose] public section

noncomputable section

namespace Cert.Network

open Idealize.ShloMosaic

/-- The length of row `r`, kept at or above the printed word for 1e-12. -/
def norm (x : Fin 21 → Fin 768 → EReal) (r : Fin 21) : EReal :=
  max (Ideal.sqrt (∑ k : Fin 768, x r k * x r k)) (Ideal.ofBits .f32 0x2B8CBCCC#32)

/-- The cosine of rows `p` and `q`: the inner product of the two rows, each divided by its length. -/
def cosine (x : Fin 21 → Fin 768 → EReal) (p q : Fin 21) : EReal :=
  ∑ k : Fin 768, Ideal.div (x p k) (norm x p) * Ideal.div (x q k) (norm x q)

/-- The cosine does not depend on the order of the two rows. -/
theorem cosine_comm (x : Fin 21 → Fin 768 → EReal) (p q : Fin 21) : cosine x p q = cosine x q p :=
  Finset.sum_congr rfl fun _ _ => mul_comm _ _

/-- The bucket of a cosine as a 32-bit word: 11 from one on, 1 below the printed word for 0.1, and the whole part of ten
times the cosine, plus one, between. -/
def bin (c : EReal) : BitVec 32 :=
  if 1 ≤ c then 11#32
  else if c < Ideal.ofBits .f32 0x3DCCCCCD#32 then 1#32
  else Ideal.fptosi 32 (Ideal.liftRound Int.floor (c * Ideal.ofBits .f32 0x41200000#32) + 1)

/-- The bucket as a number below 12. -/
def bucket (c : EReal) : Fin 12 := Fin.ofNat 12 (bin c).toNat

/-- A picture of `h` rows and `w` columns with two rows and two columns of zeros on every side. -/
def padded {C : ℕ} (h w : ℕ) (y : Fin C → ℕ → ℕ → EReal) : Fin C → ℕ → ℕ → EReal := fun c u v =>
  if (2 ≤ u ∧ u < h + 2) ∧ 2 ≤ v ∧ v < w + 2 then y c (u - 2) (v - 2) else 0

/-- The 3 × 3 correlation of a padded picture with the weights, plus the bias, below zero cut to zero. -/
def conv {C O : ℕ} (P : Fin C → ℕ → ℕ → EReal) (W : Fin O → Fin C → Fin 3 → Fin 3 → EReal) (b : Fin O → EReal) :
    Fin O → ℕ → ℕ → EReal := fun o i j =>
  max ((∑ dh : Fin 3, ∑ dw : Fin 3, ∑ c : Fin C, P c (i + dh) (j + dw) * W o c dh dw) + b o) 0

/-- The largest of each 2 × 2 square. -/
def pool {O : ℕ} (y : Fin O → ℕ → ℕ → EReal) : Fin O → ℕ → ℕ → EReal := fun o i j =>
  max (max (y o (2 * i) (2 * j)) (y o (2 * i + 1) (2 * j))) (max (y o (2 * i) (2 * j + 1)) (y o (2 * i + 1) (2 * j + 1)))

/-- The picture of one essay: channel `c`, row `u`, column `v` holds entry `v` of the table's row for the bucket of the
cosine of rows `c` and `u`. -/
def picture (x : Fin 21 → Fin 768 → EReal) (E : Fin 12 → Fin 16 → EReal) : Fin 20 → ℕ → ℕ → EReal := fun c u v =>
  E (bucket (cosine x c.castSucc (Fin.ofNat 21 u))) (Fin.ofNat 16 v)

/-- The picture after the first round, 11 rows and 9 columns of 32 channels. -/
def first (x : Fin 21 → Fin 768 → EReal) (E : Fin 12 → Fin 16 → EReal) (W₁ : Fin 32 → Fin 20 → Fin 3 → Fin 3 → EReal)
    (b₁ : Fin 32 → EReal) : Fin 32 → ℕ → ℕ → EReal :=
  pool (conv (padded 20 16 (picture x E)) W₁ b₁)

/-- The picture after the second round, 6 rows and 5 columns of 64 channels. -/
def second (y : Fin 32 → ℕ → ℕ → EReal) (W₂ : Fin 64 → Fin 32 → Fin 3 → Fin 3 → EReal) (b₂ : Fin 64 → EReal) :
    Fin 64 → ℕ → ℕ → EReal :=
  pool (conv (padded 11 9 y) W₂ b₂)

/-- The three scores: the last linear map of the 64 · 6 · 5 values, weight `c · 30 + i · 5 + j` at channel `c`, row `i`,
column `j`. -/
def scores (z : Fin 64 → ℕ → ℕ → EReal) (W₃ : Fin 3 → Fin 1920 → EReal) (b₃ : Fin 3 → EReal) (q : Fin 3) : EReal :=
  (∑ c : Fin 64, ∑ i : Fin 6, ∑ j : Fin 5, z c i j * W₃ q ⟨c * 30 + i * 5 + j, by omega⟩) + b₃ q

end Cert.Network

end
-- ==== Proof.Stages.lean ====
/-
  What one block of the kernel computes, stage by stage: the body's operations in seven named groups, each read at an
  index as the same stage of the network (Network.lean).
-/
module

public import proofs.«01_k».proof.Proof.Network
public import proofs.«01_k».proof.Proof.Gen.KernelIdeal.Skeleton

@[expose] public section

set_option maxRecDepth 16384
set_option maxHeartbeats 1000000

noncomputable section

namespace Cert.KernelBlock

open Idealize.ShloMosaic Cert.KernelIdeal Cert.KernelIdeal.Gen Cert.Network

/-- The pictures: the buckets' one-hot masks times the table's rows, added up from bucket 1 to bucket 11. -/
def embedded (x : FVec Ideal S16x21x768 .f32) (E : FVec Ideal S12x16 .f32) : FVec Ideal S16x20x16x20 .f32 :=
  have v24 : IVec S16x20x20 32 := k0_pay1 (F := Ideal) x
  have v146 : FVec Ideal S16x20x16x20 .f32 := k0_pay6 (F := Ideal) v24 E
    (k0_pay4 (F := Ideal) v24 E (k0_pay2 (F := Ideal) x E) (k0_pay3 (F := Ideal) x)) (k0_pay5 (F := Ideal) v24 E)
  have v151 : FVec Ideal S16x20x1x20 .f32 := k0_pay7 (F := Ideal) v24
  have v152 : FVec Ideal S1x16 .f32 := k0_pay8 (F := Ideal) E
  have v153 : FVec Ideal S16 .f32 := shapeCast S16 v152 shapeCasts_S1x16_S16
  have v154 : FVec Ideal S1x1x16x1 .f32 := shapeCast S1x1x16x1 v153 shapeCasts_S16_S1x1x16x1
  have v155 : FVec Ideal S16x20x16x20 .f32 := broadcastTo S16x20x16x20 v151 broadcasts_S16x20x1x20_S16x20x16x20
  have v156 : FVec Ideal S16x20x16x20 .f32 := broadcastTo S16x20x16x20 v154 broadcasts_S1x1x16x1_S16x20x16x20
  have v157 : FVec Ideal S16x20x16x20 .f32 := mulf v155 v156
  have v158 : FVec Ideal S16x20x16x20 .f32 := addf v146 v157
  v158

/-- The 20 × 16 pictures with two rows and two columns of zeros on every side. -/
def pad₁ (v158 : FVec Ideal S16x20x16x20 .f32) : FVec Ideal S16x24x20x20 .f32 :=
  have v159 : Ideal .f32 := Scalar.sitofp .f32 0#32
  have v160 : FVec Ideal S16x2x16x20 .f32 := broadcast S16x2x16x20 v159
  have v161 : FVec Ideal S16x22x16x20 .f32 := concatenate S16x22x16x20 1 [⟨S16x2x16x20, v160⟩, ⟨S16x20x16x20, v158⟩] concatenates_S16x2x16x20_S16x20x16x20_S16x22x16x20_d1
  have v162 : FVec Ideal S16x2x16x20 .f32 := broadcast S16x2x16x20 v159
  have v163 : FVec Ideal S16x24x16x20 .f32 := concatenate S16x24x16x20 1 [⟨S16x22x16x20, v161⟩, ⟨S16x2x16x20, v162⟩] concatenates_S16x22x16x20_S16x2x16x20_S16x24x16x20_d1
  have v164 : FVec Ideal S16x24x2x20 .f32 := broadcast S16x24x2x20 v159
  have v165 : FVec Ideal S16x24x18x20 .f32 := concatenate S16x24x18x20 2 [⟨S16x24x2x20, v164⟩, ⟨S16x24x16x20, v163⟩] concatenates_S16x24x2x20_S16x24x16x20_S16x24x18x20_d2
  have v166 : FVec Ideal S16x24x2x20 .f32 := broadcast S16x24x2x20 v159
  have v167 : FVec Ideal S16x24x20x20 .f32 := concatenate S16x24x20x20 2 [⟨S16x24x18x20, v165⟩, ⟨S16x24x2x20, v166⟩] concatenates_S16x24x18x20_S16x24x2x20_S16x24x20x20_d2
  v167

/-- The nine shifted windows side by side, times the weights, plus the bias, below zero cut to zero. -/
def conv₁ (v167 : FVec Ideal S16x24x20x20 .f32) (v179 : FVec Ideal S180x32 .f32) (v182 : FVec Ideal S1x32 .f32) : FVec Ideal S16x22x18x32 .f32 :=
  have v168 : FVec Ideal S16x22x18x20 .f32 := extractStridedSlice S16x22x18x20 ![0, 0, 0, 0] v167 slices_S16x24x20x20_o0_0_0_0_S16x22x18x20
  have v169 : FVec Ideal S16x22x18x20 .f32 := extractStridedSlice S16x22x18x20 ![0, 0, 1, 0] v167 slices_S16x24x20x20_o0_0_1_0_S16x22x18x20
  have v170 : FVec Ideal S16x22x18x20 .f32 := extractStridedSlice S16x22x18x20 ![0, 0, 2, 0] v167 slices_S16x24x20x20_o0_0_2_0_S16x22x18x20
  have v171 : FVec Ideal S16x22x18x20 .f32 := extractStridedSlice S16x22x18x20 ![0, 1, 0, 0] v167 slices_S16x24x20x20_o0_1_0_0_S16x22x18x20
  have v172 : FVec Ideal S16x22x18x20 .f32 := extractStridedSlice S16x22x18x20 ![0, 1, 1, 0] v167 slices_S16x24x20x20_o0_1_1_0_S16x22x18x20
  have v173 : FVec Ideal S16x22x18x20 .f32 := extractStridedSlice S16x22x18x20 ![0, 1, 2, 0] v167 slices_S16x24x20x20_o0_1_2_0_S16x22x18x20
  have v174 : FVec Ideal S16x22x18x20 .f32 := extractStridedSlice S16x22x18x20 ![0, 2, 0, 0] v167 slices_S16x24x20x20_o0_2_0_0_S16x22x18x20
  have v175 : FVec Ideal S16x22x18x20 .f32 := extractStridedSlice S16x22x18x20 ![0, 2, 1, 0] v167 slices_S16x24x20x20_o0_2_1_0_S16x22x18x20
  have v176 : FVec Ideal S16x22x18x20 .f32 := extractStridedSlice S16x22x18x20 ![0, 2, 2, 0] v167 slices_S16x24x20x20_o0_2_2_0_S16x22x18x20
  have v177 : FVec Ideal S16x22x18x180 .f32 := concatenate S16x22x18x180 3 [⟨S16x22x18x20, v168⟩, ⟨S16x22x18x20, v169⟩, ⟨S16x22x18x20, v170⟩, ⟨S16x22x18x20, v171⟩, ⟨S16x22x18x20, v172⟩, ⟨S16x22x18x20, v173⟩, ⟨S16x22x18x20, v174⟩, ⟨S16x22x18x20, v175⟩, ⟨S16x22x18x20, v176⟩] concatenates_S16x22x18x20_S16x22x18x20_S16x22x18x20_S16x22x18x20_S16x22x18x20_S16x22x18x20_S16x22x18x20_S16x22x18x20_S16x22x18x20_S16x22x18x180_d3
  have v178 : FVec Ideal S6336x180 .f32 := shapeCast S6336x180 v177 shapeCasts_S16x22x18x180_S6336x180
  have v180 : FVec Ideal S180x32 .f32 := shapeCast S180x32 v179 shapeCasts_S180x32_S180x32
  have cst_15 : FVec Ideal S6336x32 .f32 := constant S6336x32 .f32 0x00000000#32
  have v181 : FVec Ideal S6336x32 .f32 := matmul dot_S6336x180_S180x32_S6336x32_1_0_0_1_n_n none v178 v180 cst_15
  have v183 : FVec Ideal S1x32 .f32 := shapeCast S1x32 v182 shapeCasts_S1x32_S1x32
  have v184 : FVec Ideal S6336x32 .f32 := broadcastTo S6336x32 v183 broadcasts_S1x32_S6336x32
  have v185 : FVec Ideal S6336x32 .f32 := addf v181 v184
  have cst_18 : Ideal .f32 := Scalar.ofBits .f32 0x00000000#32
  have v186 : FVec Ideal S6336x32 .f32 := broadcast S6336x32 cst_18
  have v187 : FVec Ideal S6336x32 .f32 := maximumf v185 v186
  have v188 : FVec Ideal S16x22x18x32 .f32 := shapeCast S16x22x18x32 v187 shapeCasts_S6336x32_S16x22x18x32
  v188

/-- The largest of each 2 × 2 square of the first round. -/
def pool₁ (v188 : FVec Ideal S16x22x18x32 .f32) : FVec Ideal S16x11x9x32 .f32 :=
  have v189 : FVec Ideal S16x11x2x18x32 .f32 := shapeCast S16x11x2x18x32 v188 shapeCasts_S16x22x18x32_S16x11x2x18x32
  have v190 : FVec Ideal S16x11x1x18x32 .f32 := extractStridedSlice S16x11x1x18x32 ![0, 0, 0, 0, 0] v189 slices_S16x11x2x18x32_o0_0_0_0_0_S16x11x1x18x32
  have v191 : FVec Ideal S16x11x18x32 .f32 := shapeCast S16x11x18x32 v190 shapeCasts_S16x11x1x18x32_S16x11x18x32
  have v192 : FVec Ideal S16x11x1x18x32 .f32 := extractStridedSlice S16x11x1x18x32 ![0, 0, 1, 0, 0] v189 slices_S16x11x2x18x32_o0_0_1_0_0_S16x11x1x18x32
  have v193 : FVec Ideal S16x11x18x32 .f32 := shapeCast S16x11x18x32 v192 shapeCasts_S16x11x1x18x32_S16x11x18x32
  have v194 : FVec Ideal S16x11x18x32 .f32 := maximumf v191 v193
  have v195 : FVec Ideal S16x11x9x2x32 .f32 := shapeCast S16x11x9x2x32 v194 shapeCasts_S16x11x18x32_S16x11x9x2x32
  have v196 : FVec Ideal S16x11x9x1x32 .f32 := extractStridedSlice S16x11x9x1x32 ![0, 0, 0, 0, 0] v195 slices_S16x11x9x2x32_o0_0_0_0_0_S16x11x9x1x32
  have v197 : FVec Ideal S16x11x9x32 .f32 := shapeCast S16x11x9x32 v196 shapeCasts_S16x11x9x1x32_S16x11x9x32
  have v198 : FVec Ideal S16x11x9x1x32 .f32 := extractStridedSlice S16x11x9x1x32 ![0, 0, 0, 1, 0] v195 slices_S16x11x9x2x32_o0_0_0_1_0_S16x11x9x1x32
  have v199 : FVec Ideal S16x11x9x32 .f32 := shapeCast S16x11x9x32 v198 shapeCasts_S16x11x9x1x32_S16x11x9x32
  have v200 : FVec Ideal S16x11x9x32 .f32 := maximumf v197 v199
  v200

/-- The 11 × 9 pictures with two rows and two columns of zeros on every side. -/
def pad₂ (v200 : FVec Ideal S16x11x9x32 .f32) : FVec Ideal S16x15x13x32 .f32 :=
  have v201 : Ideal .f32 := Scalar.sitofp .f32 0#32
  have v202 : FVec Ideal S16x2x9x32 .f32 := broadcast S16x2x9x32 v201
  have v203 : FVec Ideal S16x13x9x32 .f32 := concatenate S16x13x9x32 1 [⟨S16x2x9x32, v202⟩, ⟨S16x11x9x32, v200⟩] concatenates_S16x2x9x32_S16x11x9x32_S16x13x9x32_d1
  have v204 : FVec Ideal S16x2x9x32 .f32 := broadcast S16x2x9x32 v201
  have v205 : FVec Ideal S16x15x9x32 .f32 := concatenate S16x15x9x32 1 [⟨S16x13x9x32, v203⟩, ⟨S16x2x9x32, v204⟩] concatenates_S16x13x9x32_S16x2x9x32_S16x15x9x32_d1
  have v206 : FVec Ideal S16x15x2x32 .f32 := broadcast S16x15x2x32 v201
  have v207 : FVec Ideal S16x15x11x32 .f32 := concatenate S16x15x11x32 2 [⟨S16x15x2x32, v206⟩, ⟨S16x15x9x32, v205⟩] concatenates_S16x15x2x32_S16x15x9x32_S16x15x11x32_d2
  have v208 : FVec Ideal S16x15x2x32 .f32 := broadcast S16x15x2x32 v201
  have v209 : FVec Ideal S16x15x13x32 .f32 := concatenate S16x15x13x32 2 [⟨S16x15x11x32, v207⟩, ⟨S16x15x2x32, v208⟩] concatenates_S16x15x11x32_S16x15x2x32_S16x15x13x32_d2
  v209

/-- The nine shifted windows side by side, times the weights, plus the bias, below zero cut to zero. -/
def conv₂ (v209 : FVec Ideal S16x15x13x32 .f32) (v221 : FVec Ideal S288x64 .f32) (v224 : FVec Ideal S1x64 .f32) : FVec Ideal S16x13x11x64 .f32 :=
  have v210 : FVec Ideal S16x13x11x32 .f32 := extractStridedSlice S16x13x11x32 ![0, 0, 0, 0] v209 slices_S16x15x13x32_o0_0_0_0_S16x13x11x32
  have v211 : FVec Ideal S16x13x11x32 .f32 := extractStridedSlice S16x13x11x32 ![0, 0, 1, 0] v209 slices_S16x15x13x32_o0_0_1_0_S16x13x11x32
  have v212 : FVec Ideal S16x13x11x32 .f32 := extractStridedSlice S16x13x11x32 ![0, 0, 2, 0] v209 slices_S16x15x13x32_o0_0_2_0_S16x13x11x32
  have v213 : FVec Ideal S16x13x11x32 .f32 := extractStridedSlice S16x13x11x32 ![0, 1, 0, 0] v209 slices_S16x15x13x32_o0_1_0_0_S16x13x11x32
  have v214 : FVec Ideal S16x13x11x32 .f32 := extractStridedSlice S16x13x11x32 ![0, 1, 1, 0] v209 slices_S16x15x13x32_o0_1_1_0_S16x13x11x32
  have v215 : FVec Ideal S16x13x11x32 .f32 := extractStridedSlice S16x13x11x32 ![0, 1, 2, 0] v209 slices_S16x15x13x32_o0_1_2_0_S16x13x11x32
  have v216 : FVec Ideal S16x13x11x32 .f32 := extractStridedSlice S16x13x11x32 ![0, 2, 0, 0] v209 slices_S16x15x13x32_o0_2_0_0_S16x13x11x32
  have v217 : FVec Ideal S16x13x11x32 .f32 := extractStridedSlice S16x13x11x32 ![0, 2, 1, 0] v209 slices_S16x15x13x32_o0_2_1_0_S16x13x11x32
  have v218 : FVec Ideal S16x13x11x32 .f32 := extractStridedSlice S16x13x11x32 ![0, 2, 2, 0] v209 slices_S16x15x13x32_o0_2_2_0_S16x13x11x32
  have v219 : FVec Ideal S16x13x11x288 .f32 := concatenate S16x13x11x288 3 [⟨S16x13x11x32, v210⟩, ⟨S16x13x11x32, v211⟩, ⟨S16x13x11x32, v212⟩, ⟨S16x13x11x32, v213⟩, ⟨S16x13x11x32, v214⟩, ⟨S16x13x11x32, v215⟩, ⟨S16x13x11x32, v216⟩, ⟨S16x13x11x32, v217⟩, ⟨S16x13x11x32, v218⟩] concatenates_S16x13x11x32_S16x13x11x32_S16x13x11x32_S16x13x11x32_S16x13x11x32_S16x13x11x32_S16x13x11x32_S16x13x11x32_S16x13x11x32_S16x13x11x288_d3
  have v220 : FVec Ideal S2288x288 .f32 := shapeCast S2288x288 v219 shapeCasts_S16x13x11x288_S2288x288
  have v222 : FVec Ideal S288x64 .f32 := shapeCast S288x64 v221 shapeCasts_S288x64_S288x64
  have cst_22 : FVec Ideal S2288x64 .f32 := constant S2288x64 .f32 0x00000000#32
  have v223 : FVec Ideal S2288x64 .f32 := matmul dot_S2288x288_S288x64_S2288x64_1_0_0_1_n_n none v220 v222 cst_22
  have v225 : FVec Ideal S1x64 .f32 := shapeCast S1x64 v224 shapeCasts_S1x64_S1x64
  have v226 : FVec Ideal S2288x64 .f32 := broadcastTo S2288x64 v225 broadcasts_S1x64_S2288x64
  have v227 : FVec Ideal S2288x64 .f32 := addf v223 v226
  have cst_25 : Ideal .f32 := Scalar.ofBits .f32 0x00000000#32
  have v228 : FVec Ideal S2288x64 .f32 := broadcast S2288x64 cst_25
  have v229 : FVec Ideal S2288x64 .f32 := maximumf v227 v228
  have v230 : FVec Ideal S16x13x11x64 .f32 := shapeCast S16x13x11x64 v229 shapeCasts_S2288x64_S16x13x11x64
  v230

/-- The largest of each 2 × 2 square of the first twelve rows and ten columns. -/
def pool₂ (v230 : FVec Ideal S16x13x11x64 .f32) : FVec Ideal S16x6x5x64 .f32 :=
  have v231 : FVec Ideal S16x12x11x64 .f32 := extractStridedSlice S16x12x11x64 ![0, 0, 0, 0] v230 slices_S16x13x11x64_o0_0_0_0_S16x12x11x64
  have v232 : FVec Ideal S16x6x2x11x64 .f32 := shapeCast S16x6x2x11x64 v231 shapeCasts_S16x12x11x64_S16x6x2x11x64
  have v233 : FVec Ideal S16x6x1x11x64 .f32 := extractStridedSlice S16x6x1x11x64 ![0, 0, 0, 0, 0] v232 slices_S16x6x2x11x64_o0_0_0_0_0_S16x6x1x11x64
  have v234 : FVec Ideal S16x6x11x64 .f32 := shapeCast S16x6x11x64 v233 shapeCasts_S16x6x1x11x64_S16x6x11x64
  have v235 : FVec Ideal S16x6x1x11x64 .f32 := extractStridedSlice S16x6x1x11x64 ![0, 0, 1, 0, 0] v232 slices_S16x6x2x11x64_o0_0_1_0_0_S16x6x1x11x64
  have v236 : FVec Ideal S16x6x11x64 .f32 := shapeCast S16x6x11x64 v235 shapeCasts_S16x6x1x11x64_S16x6x11x64
  have v237 : FVec Ideal S16x6x11x64 .f32 := maximumf v234 v236
  have v238 : FVec Ideal S16x6x10x64 .f32 := extractStridedSlice S16x6x10x64 ![0, 0, 0, 0] v237 slices_S16x6x11x64_o0_0_0_0_S16x6x10x64
  have v239 : FVec Ideal S16x6x5x2x64 .f32 := shapeCast S16x6x5x2x64 v238 shapeCasts_S16x6x10x64_S16x6x5x2x64
  have v240 : FVec Ideal S16x6x5x1x64 .f32 := extractStridedSlice S16x6x5x1x64 ![0, 0, 0, 0, 0] v239 slices_S16x6x5x2x64_o0_0_0_0_0_S16x6x5x1x64
  have v241 : FVec Ideal S16x6x5x64 .f32 := shapeCast S16x6x5x64 v240 shapeCasts_S16x6x5x1x64_S16x6x5x64
  have v242 : FVec Ideal S16x6x5x1x64 .f32 := extractStridedSlice S16x6x5x1x64 ![0, 0, 0, 1, 0] v239 slices_S16x6x5x2x64_o0_0_0_1_0_S16x6x5x1x64
  have v243 : FVec Ideal S16x6x5x64 .f32 := shapeCast S16x6x5x64 v242 shapeCasts_S16x6x5x1x64_S16x6x5x64
  have v244 : FVec Ideal S16x6x5x64 .f32 := maximumf v241 v243
  v244

/-- The last linear map of the 1920 values of each essay. -/
def head (v244 : FVec Ideal S16x6x5x64 .f32) (v246 : FVec Ideal S1920x3 .f32) (v249 : FVec Ideal S1x3 .f32) : FVec Ideal S16x3 .f32 :=
  have v245 : FVec Ideal S16x1920 .f32 := shapeCast S16x1920 v244 shapeCasts_S16x6x5x64_S16x1920
  have v247 : FVec Ideal S1920x3 .f32 := shapeCast S1920x3 v246 shapeCasts_S1920x3_S1920x3
  have cst_28 : FVec Ideal S16x3 .f32 := constant S16x3 .f32 0x00000000#32
  have v248 : FVec Ideal S16x3 .f32 := matmul dot_S16x1920_S1920x3_S16x3_1_0_0_1_n_n none v245 v247 cst_28
  have v250 : FVec Ideal S1x3 .f32 := shapeCast S1x3 v249 shapeCasts_S1x3_S1x3
  have v251 : FVec Ideal S16x3 .f32 := broadcastTo S16x3 v250 broadcasts_S1x3_S16x3
  have v252 : FVec Ideal S16x3 .f32 := addf v248 v251
  v252

end Cert.KernelBlock

end
-- ==== Proof.Bucket.lean ====
/-
  The buckets are the numbers 1 to 11: the cosine between the printed 0.1 and one is a real number, ten times it lies
  between one and ten, and so the whole part plus one lies between 2 and 10.
-/
module

public import proofs.«01_k».proof.Proof.Network

@[expose] public section

noncomputable section

namespace Cert.Network

open Idealize.ShloMosaic

/-- The printed word for 0.1 is the real 13421773 / 2²⁷. -/
theorem tenth : Ideal.ofBits .f32 0x3DCCCCCD#32 = ((13421773 / 134217728 : ℝ) : EReal) := by
  simp [Ideal.ofBits, Ideal.ieee, -EReal.coe_mul]; norm_num

/-- The printed word for ten is ten. -/
theorem ten : Ideal.ofBits .f32 0x41200000#32 = ((10 : ℝ) : EReal) := by
  simp [Ideal.ofBits, Ideal.ieee, -EReal.coe_mul]; norm_num

/-- Between the printed 0.1 and one, the whole part of ten times the number, plus one, is one of 2 to 10. -/
theorem between (r : ℝ) (h0 : 13421773 / 134217728 ≤ r) (h1 : r < 1) : ∃ k : ℕ, 2 ≤ k ∧ k ≤ 10 ∧
    Ideal.fptosi 32 (Ideal.liftRound Int.floor ((r : EReal) * ((10 : ℝ) : EReal)) + 1) = BitVec.ofNat 32 k := by
  have hl : 1 ≤ ⌊r * 10⌋ := Int.le_floor.mpr (by push_cast; linarith)
  have hu : ⌊r * 10⌋ < 10 := Int.floor_lt.mpr (by push_cast; linarith)
  obtain ⟨k, hk⟩ : ∃ k : ℕ, ⌊r * 10⌋ = k := ⟨⌊r * 10⌋.toNat, by omega⟩
  refine ⟨k + 1, by omega, by omega, ?_⟩
  have e : Ideal.liftRound Int.floor ((r : EReal) * ((10 : ℝ) : EReal)) + 1 = (((k + 1 : ℕ) : ℝ) : EReal) := by
    rw [← EReal.coe_mul]
    show (((⌊r * 10⌋ : ℤ) : ℝ) : EReal) + 1 = _
    rw [hk]; push_cast; norm_cast
  rw [e]
  show BitVec.ofInt 32 (max _ (min _ (if (0 : ℝ) ≤ ((k + 1 : ℕ) : ℝ) then ⌊((k + 1 : ℕ) : ℝ)⌋ else ⌈((k + 1 : ℕ) : ℝ)⌉))) = _
  rw [if_pos (Nat.cast_nonneg _), Int.floor_natCast]
  have hm : max (-(2 ^ (32 - 1) : ℕ) : ℤ) (min ((2 ^ (32 - 1) : ℕ) - 1 : ℤ) ((k + 1 : ℕ) : ℤ)) = ((k + 1 : ℕ) : ℤ) := by
    have : (k : ℤ) < 10 := by omega
    norm_num; omega
  rw [hm, BitVec.ofInt_natCast]

/-- Every bucket is one of 1 to 11. -/
theorem bin_range (c : EReal) : ∃ k : ℕ, 1 ≤ k ∧ k ≤ 11 ∧ bin c = BitVec.ofNat 32 k := by
  unfold bin
  by_cases h1 : 1 ≤ c
  · exact ⟨11, by omega, by omega, if_pos h1⟩
  rw [if_neg h1]
  by_cases h0 : c < Ideal.ofBits .f32 0x3DCCCCCD#32
  · exact ⟨1, by omega, by omega, if_pos h0⟩
  rw [if_neg h0, ten]
  rw [tenth] at h0
  rw [not_lt] at h0
  rw [not_le] at h1
  induction c with
  | bot => exact absurd h0 (by simp)
  | top => exact absurd h1 (by simp)
  | coe r =>
    obtain ⟨k, a, b, e⟩ := between r (EReal.coe_le_coe_iff.mp h0) (by exact_mod_cast h1)
    exact ⟨k, by omega, by omega, e⟩

/-- The bucket's word is the word of its number. -/
theorem bin_eq (c : EReal) : bin c = BitVec.ofNat 32 (bucket c).val ∧ 1 ≤ (bucket c).val := by
  obtain ⟨k, a, b, e⟩ := bin_range c
  have hb : (bucket c).val = k := by
    show (bin c).toNat % 12 = k
    rw [e, BitVec.toNat_ofNat]; omega
  rw [hb]; exact ⟨e, a⟩

end Cert.Network

end
-- ==== Proof.Embed.lean ====
/-
  The pictures that the kernel's one-hot sums give: for a bucket that is one of 1 to 11, the sum of the masks times the
  table's rows is the bucket's row.
-/
module

public import proofs.«01_k».proof.Proof.Network
public import proofs.«01_k».proof.Proof.Stages
public import proofs.«01_k».proof.Proof.Bucket

@[expose] public section

set_option maxRecDepth 16384
set_option maxHeartbeats 1000000

noncomputable section

namespace Cert.KernelBlock

open Idealize.ShloMosaic Cert.KernelIdeal Cert.KernelIdeal.Gen Cert.Network

/-- The kernel's buckets are those of the cosines. -/
theorem bins_at (x : FVec Ideal S16x21x768 .f32) (b : Fin 16) (p q : Fin 20) :
    k0_pay1 (F := Ideal) x (ix3 b p q) = bin (cosine (fun r k => x (ix3 b r k)) p.castSucc q.castSucc) := by
  pointwise [k0_pay1]
  rfl

/-- The mask of bucket `k` is one at bucket `k` and zero at the others. -/
theorem mask_at (t k : ℕ) (ht : t < 12) (hk : k < 12) :
    FloatOps.sitofp (F := Ideal) .f32 (BitVec.setWidth 32 (IntOp.cmpi .eq (BitVec.ofNat 32 t) (BitVec.ofNat 32 k)))
      = if t = k then 1 else 0 := by
  by_cases h : t = k
  · subst h
    rw [IntOp.cmpi_eq_self, if_pos rfl]
    show (((BitVec.setWidth 32 1#1).toInt : ℝ) : EReal) = 1
    simp
  · have hn : IntOp.cmpi .eq (BitVec.ofNat 32 t) (BitVec.ofNat 32 k) = 0#1 := by
      have : BitVec.ofNat 32 t ≠ BitVec.ofNat 32 k := fun e => h (by
        have := congrArg BitVec.toNat e
        rwa [BitVec.toNat_ofNat, BitVec.toNat_ofNat, Nat.mod_eq_of_lt (by omega), Nat.mod_eq_of_lt (by omega)] at this)
      show BitVec.ofBool (BitVec.ofNat 32 t == BitVec.ofNat 32 k) = 0#1
      rw [beq_eq_false_iff_ne.mpr this]
      rfl
    rw [hn, if_neg h]
    show (((BitVec.setWidth 32 0#1).toInt : ℝ) : EReal) = 0
    simp

/-- The one-hot sum at a bucket is the table's row of the bucket. -/
theorem embedded_at (x : FVec Ideal S16x21x768 .f32) (E : FVec Ideal S12x16 .f32) (b : Fin 16) (u : Fin 20) (v : Fin 16)
    (c : Fin 20) :
    embedded x E (ix4 b u v c) = picture (fun r k => x (ix3 b r k)) (fun k l => E (ix2 k l)) c u v := by
  pointwise [embedded, k0_pay2, k0_pay3, k0_pay4, k0_pay5, k0_pay6, k0_pay7, k0_pay8]
  have hu : (Fin.ofNat 21 u.val : Fin 21) = u.castSucc := Fin.ext (Nat.mod_eq_of_lt (by omega))
  have hv : (Fin.ofNat 16 v.val : Fin 16) = v := Fin.ext (Nat.mod_eq_of_lt v.isLt)
  unfold picture
  rw [bins_at, hu, hv, cosine_comm _ c.castSucc]
  obtain ⟨e, h1⟩ := bin_eq (cosine (fun r k => x (ix3 b r k)) u.castSucc c.castSucc)
  generalize bucket (cosine (fun r k => x (ix3 b r k)) u.castSucc c.castSucc) = t at e h1 ⊢
  rw [e]
  have ht := t.isLt
  have m := fun (k : ℕ) (hk : k < 12) => mask_at t.val k ht hk
  rw [m 1 (by omega), m 2 (by omega), m 3 (by omega), m 4 (by omega), m 5 (by omega), m 6 (by omega), m 7 (by omega),
    m 8 (by omega), m 9 (by omega), m 10 (by omega), m 11 (by omega)]
  clear e m
  fin_vals t with h
  · omega
  all_goals
    simp [h]
    exact congrArg (fun s => E (ix2 s v)) (Fin.ext h.symm)

end Cert.KernelBlock

end
-- ==== Proof.Rounds.lean ====
/-
  The kernel's stages (Stages.lean) read at an index: each is the network's stage (Network.lean) of what its operand
  holds, for any picture that the operand holds.
-/
module

public import proofs.«01_k».proof.Proof.Network
public import proofs.«01_k».proof.Proof.Stages

@[expose] public section

set_option maxRecDepth 16384
set_option maxHeartbeats 1000000

noncomputable section

namespace Cert.KernelBlock

open Idealize.ShloMosaic Cert.KernelIdeal Cert.KernelIdeal.Gen Cert.Network

/-- A sum over `3 · 3 · C` positions is a sum over the window's rows, its columns and the channels. -/
theorem sum_taps {C N : ℕ} (hN : 3 * 3 * C = N) (f : Fin N → EReal) :
    ∑ k : Fin N, f k = ∑ dh : Fin 3, ∑ dw : Fin 3, ∑ c : Fin C, f ⟨(dh.val * 3 + dw.val) * C + c.val, by
      have := dh.isLt; have := dw.isLt; have := c.isLt; subst hN; nlinarith⟩ := by
  rw [Fin.sum_univ_tiles (3 * 3) C hN, Fin.sum_univ_tiles 3 3 rfl]

/-- The zeros around the pictures of the first round. -/
theorem pad₁_at (x : FVec Ideal S16x20x16x20 .f32) (b : Fin 16) (y : Fin 20 → ℕ → ℕ → EReal)
    (hx : ∀ (u : Fin 20) (v : Fin 16) (c : Fin 20), x (ix4 b u v c) = y c u v) (u : Fin 24) (v c : Fin 20) :
    pad₁ x (ix4 b u v c) = padded 20 16 y c u v := by
  have h0 : ((((0#32).toInt : ℝ)) : EReal) = 0 := by simp
  pointwise [pad₁, h0, hx, padded]
  split_ifs <;> first | rfl | omega

/-- The correlation of the first round. -/
theorem conv₁_at (x : FVec Ideal S16x24x20x20 .f32) (W : FVec Ideal S180x32 .f32) (β : FVec Ideal S1x32 .f32) (b : Fin 16)
    (P : Fin 20 → ℕ → ℕ → EReal) (w : Fin 32 → Fin 20 → Fin 3 → Fin 3 → EReal) (γ : Fin 32 → EReal)
    (hx : ∀ (u : Fin 24) (v c : Fin 20), x (ix4 b u v c) = P c u v)
    (hW : ∀ (dh dw : Fin 3) (c : Fin 20) (o : Fin 32), W (ix2 ⟨(dh.val * 3 + dw.val) * 20 + c.val, by omega⟩ o) = w o c dh dw)
    (hβ : ∀ o : Fin 32, β (ix2 0 o) = γ o) (i : Fin 22) (j : Fin 18) (o : Fin 32) :
    conv₁ x W β (ix4 b i j o) = conv P w γ o i j := by
  pointwise [conv₁]
  unfold conv
  rw [hβ, sum_taps (C := 20) (N := 180) rfl]
  refine congrArg (fun s => max (s + γ o) 0) ?_
  refine Finset.sum_congr rfl fun dh _ => Finset.sum_congr rfl fun dw _ => Finset.sum_congr rfl fun c _ => ?_
  refine Ideal.mul_congr ?_ (hW dh dw c o)
  simp only [hx]
  have hc := c.isLt
  fin_vals dh with hh <;> fin_vals dw with hw <;> simp only [hh, hw] <;>
    repeat first
      | refine (dif_pos (by omega)).trans ?_
      | refine (dif_neg (by omega)).trans ?_
      | exact congr (congr (congrArg P (Fin.ext (by simp only []; omega))) (by omega)) (by omega)

/-- The largest of each square of the first round. -/
theorem pool₁_at (x : FVec Ideal S16x22x18x32 .f32) (b : Fin 16) (y : Fin 32 → ℕ → ℕ → EReal)
    (hx : ∀ (u : Fin 22) (v : Fin 18) (o : Fin 32), x (ix4 b u v o) = y o u v) (i : Fin 11) (j : Fin 9) (o : Fin 32) :
    pool₁ x (ix4 b i j o) = pool y o i j := by
  pointwise [pool₁]
  simp only [hx, Network.pool, mul_comm]

/-- The zeros around the pictures of the second round. -/
theorem pad₂_at (x : FVec Ideal S16x11x9x32 .f32) (b : Fin 16) (y : Fin 32 → ℕ → ℕ → EReal)
    (hx : ∀ (u : Fin 11) (v : Fin 9) (c : Fin 32), x (ix4 b u v c) = y c u v) (u : Fin 15) (v : Fin 13) (c : Fin 32) :
    pad₂ x (ix4 b u v c) = padded 11 9 y c u v := by
  have h0 : ((((0#32).toInt : ℝ)) : EReal) = 0 := by simp
  pointwise [pad₂, h0, hx, padded]
  split_ifs <;> first | rfl | omega

/-- The correlation of the second round. -/
theorem conv₂_at (x : FVec Ideal S16x15x13x32 .f32) (W : FVec Ideal S288x64 .f32) (β : FVec Ideal S1x64 .f32) (b : Fin 16)
    (P : Fin 32 → ℕ → ℕ → EReal) (w : Fin 64 → Fin 32 → Fin 3 → Fin 3 → EReal) (γ : Fin 64 → EReal)
    (hx : ∀ (u : Fin 15) (v : Fin 13) (c : Fin 32), x (ix4 b u v c) = P c u v)
    (hW : ∀ (dh dw : Fin 3) (c : Fin 32) (o : Fin 64), W (ix2 ⟨(dh.val * 3 + dw.val) * 32 + c.val, by omega⟩ o) = w o c dh dw)
    (hβ : ∀ o : Fin 64, β (ix2 0 o) = γ o) (i : Fin 13) (j : Fin 11) (o : Fin 64) :
    conv₂ x W β (ix4 b i j o) = conv P w γ o i j := by
  pointwise [conv₂]
  unfold conv
  rw [hβ, sum_taps (C := 32) (N := 288) rfl]
  refine congrArg (fun s => max (s + γ o) 0) ?_
  refine Finset.sum_congr rfl fun dh _ => Finset.sum_congr rfl fun dw _ => Finset.sum_congr rfl fun c _ => ?_
  refine Ideal.mul_congr ?_ (hW dh dw c o)
  simp only [hx]
  have hc := c.isLt
  fin_vals dh with hh <;> fin_vals dw with hw <;> simp only [hh, hw] <;>
    repeat first
      | refine (dif_pos (by omega)).trans ?_
      | refine (dif_neg (by omega)).trans ?_
      | exact congr (congr (congrArg P (Fin.ext (by simp only []; omega))) (by omega)) (by omega)

/-- The largest of each square of the second round. -/
theorem pool₂_at (x : FVec Ideal S16x13x11x64 .f32) (b : Fin 16) (y : Fin 64 → ℕ → ℕ → EReal)
    (hx : ∀ (u : Fin 13) (v : Fin 11) (o : Fin 64), x (ix4 b u v o) = y o u v) (i : Fin 6) (j : Fin 5) (o : Fin 64) :
    pool₂ x (ix4 b i j o) = pool y o i j := by
  pointwise [pool₂]
  simp only [hx, Network.pool, mul_comm]

/-- The scores. -/
theorem head_at (x : FVec Ideal S16x6x5x64 .f32) (W : FVec Ideal S1920x3 .f32) (β : FVec Ideal S1x3 .f32) (b : Fin 16)
    (z : Fin 64 → ℕ → ℕ → EReal) (w : Fin 3 → Fin 1920 → EReal) (γ : Fin 3 → EReal)
    (hx : ∀ (i : Fin 6) (j : Fin 5) (c : Fin 64), x (ix4 b i j c) = z c i j)
    (hW : ∀ (i : Fin 6) (j : Fin 5) (c : Fin 64) (q : Fin 3),
      W (ix2 ⟨(i.val * 5 + j.val) * 64 + c.val, by omega⟩ q) = w q ⟨c.val * 30 + i.val * 5 + j.val, by omega⟩)
    (hβ : ∀ q : Fin 3, β (ix2 0 q) = γ q) (q : Fin 3) :
    head x W β (ix2 b q) = scores z w γ q := by
  pointwise [head]
  unfold scores
  rw [hβ, Fin.sum_univ_tiles 30 64 rfl, Fin.sum_univ_tiles 6 5 rfl]
  refine congrArg (· + γ q) ?_
  have hs : ∀ (i : Fin 6) (j : Fin 5) (c : Fin 64),
      x (ix4 b ⟨((i.val * 5 + j.val) * 64 + c.val) / 320, by omega⟩ ⟨((i.val * 5 + j.val) * 64 + c.val) / 64 % 5, by omega⟩
        ⟨((i.val * 5 + j.val) * 64 + c.val) % 64, by omega⟩) = z c i j := fun i j c => by
    rw [← hx]
    exact congrArg x (congr (congr (congrArg (ix4 b) (Fin.ext (by simp only []; omega))) (Fin.ext (by simp only []; omega)))
      (Fin.ext (by simp only []; omega)))
  simp only [hs, hW]
  rw [Finset.sum_congr rfl fun i _ => Finset.sum_comm, Finset.sum_comm]

end Cert.KernelBlock

end
-- ==== Proof.Result.lean ====
/-
  The scores of every essay as one function of the eight arrays that they depend on.
-/
module

public import proofs.«01_k».proof.Proof.Network

@[expose] public section

noncomputable section

namespace Cert.Network

open Idealize.ShloMosaic

/-- The three scores of one essay, from its 21 rows, the bucket table and the weights and biases of the three layers. -/
def essay (x : Fin 21 → Fin 768 → EReal) (E : Fin 12 → Fin 16 → EReal) (W₁ : Fin 32 → Fin 20 → Fin 3 → Fin 3 → EReal)
    (b₁ : Fin 32 → EReal) (W₂ : Fin 64 → Fin 32 → Fin 3 → Fin 3 → EReal) (b₂ : Fin 64 → EReal)
    (W₃ : Fin 3 → Fin 1920 → EReal) (b₃ : Fin 3 → EReal) (q : Fin 3) : EReal :=
  scores (second (first x E W₁ b₁) W₂ b₂) W₃ b₃ q

/-- The scores of the 4096 essays: row `r` holds the scores of essay `r`. -/
def result (X : FVec Ideal ⟨3, ![4096, 21, 768]⟩ .f32) (E : FVec Ideal ⟨2, ![12, 16]⟩ .f32)
    (W₁ : FVec Ideal ⟨4, ![32, 20, 3, 3]⟩ .f32) (b₁ : FVec Ideal ⟨1, ![32]⟩ .f32)
    (W₂ : FVec Ideal ⟨4, ![64, 32, 3, 3]⟩ .f32) (b₂ : FVec Ideal ⟨1, ![64]⟩ .f32)
    (W₃ : FVec Ideal ⟨2, ![3, 1920]⟩ .f32) (b₃ : FVec Ideal ⟨1, ![3]⟩ .f32) : FVec Ideal ⟨2, ![4096, 3]⟩ .f32 := fun i =>
  essay (fun r k => X (ix3 (i 0) r k)) (fun k l => E (ix2 k l)) (fun o c dh dw => W₁ (ix4 o c dh dw)) (fun o => b₁ (ix1 o))
    (fun o c dh dw => W₂ (ix4 o c dh dw)) (fun o => b₂ (ix1 o)) (fun q k => W₃ (ix2 q k)) (fun q => b₃ (ix1 q)) (i 1)

end Cert.Network

end
-- ==== Proof.Block.lean ====
/-
  What one block of the kernel computes: the scores of its 16 essays.
-/
module

public import proofs.«01_k».proof.Proof.Gen.KernelIdeal.Value
public import proofs.«01_k».proof.Proof.Embed
public import proofs.«01_k».proof.Proof.Rounds
public import proofs.«01_k».proof.Proof.Result

@[expose] public section

set_option maxRecDepth 16384
set_option maxHeartbeats 1000000

noncomputable section

namespace Cert.KernelBlock

open Idealize.ShloMosaic Cert.KernelIdeal Cert.KernelIdeal.Gen Cert.Network

/-- The offsets of a whole matrix are zero. -/
theorem no_offset : (![0, 0] : Fin 2 → Nat) = fun _ => 0 := funext fun a => by fin_cases a <;> rfl

/-- The offsets of a whole array of three axes are zero. -/
theorem no_offset₃ : (![0, 0, 0] : Fin 3 → Nat) = fun _ => 0 := funext fun a => by fin_cases a <;> rfl

/-- The block that the body stores is the seven stages one after the other. -/
theorem out_eq (x0 : FVec Ideal S16x21x768 .f32) (x1 : FVec Ideal S12x16 .f32) (x2 : FVec Ideal S180x32 .f32)
    (x3 : FVec Ideal S1x32 .f32) (x4 : FVec Ideal S288x64 .f32) (x5 : FVec Ideal S1x64 .f32) (x6 : FVec Ideal S1920x3 .f32)
    (x7 : FVec Ideal S1x3 .f32) :
    out0_8 (F := Ideal) x0 x1 x2 x3 x4 x5 x6 x7
      = head (pool₂ (conv₂ (pad₂ (pool₁ (conv₁ (pad₁ (embedded x0 x1)) x2 x3))) x4 x5)) x6 x7 := by
  unfold out0_8 k0_pay13
  rw [View.canon_unit_zero no_offset, View.ld_unit_zero no_offset₃]
  repeat rw [View.ld_unit_zero no_offset]
  rfl

/-- Row `b` of the block holds the scores of the block's essay `b`. -/
theorem out_at (x0 : FVec Ideal S16x21x768 .f32) (x1 : FVec Ideal S12x16 .f32) (x2 : FVec Ideal S180x32 .f32)
    (x3 : FVec Ideal S1x32 .f32) (x4 : FVec Ideal S288x64 .f32) (x5 : FVec Ideal S1x64 .f32) (x6 : FVec Ideal S1920x3 .f32)
    (x7 : FVec Ideal S1x3 .f32)
    (W₁ : Fin 32 → Fin 20 → Fin 3 → Fin 3 → EReal) (b₁ : Fin 32 → EReal) (W₂ : Fin 64 → Fin 32 → Fin 3 → Fin 3 → EReal)
    (b₂ : Fin 64 → EReal) (W₃ : Fin 3 → Fin 1920 → EReal) (b₃ : Fin 3 → EReal)
    (h2 : ∀ (dh dw : Fin 3) (c : Fin 20) (o : Fin 32), x2 (ix2 ⟨(dh.val * 3 + dw.val) * 20 + c.val, by omega⟩ o) = W₁ o c dh dw)
    (h3 : ∀ o : Fin 32, x3 (ix2 0 o) = b₁ o)
    (h4 : ∀ (dh dw : Fin 3) (c : Fin 32) (o : Fin 64), x4 (ix2 ⟨(dh.val * 3 + dw.val) * 32 + c.val, by omega⟩ o) = W₂ o c dh dw)
    (h5 : ∀ o : Fin 64, x5 (ix2 0 o) = b₂ o)
    (h6 : ∀ (i : Fin 6) (j : Fin 5) (c : Fin 64) (q : Fin 3),
      x6 (ix2 ⟨(i.val * 5 + j.val) * 64 + c.val, by omega⟩ q) = W₃ q ⟨c.val * 30 + i.val * 5 + j.val, by omega⟩)
    (h7 : ∀ q : Fin 3, x7 (ix2 0 q) = b₃ q) (b : Fin 16) (q : Fin 3) :
    out0_8 (F := Ideal) x0 x1 x2 x3 x4 x5 x6 x7 (ix2 b q)
      = essay (fun r k => x0 (ix3 b r k)) (fun k l => x1 (ix2 k l)) W₁ b₁ W₂ b₂ W₃ b₃ q := by
  rw [out_eq]
  have s0 := pad₁_at _ b _ (embedded_at x0 x1 b)
  have s1 := pool₁_at _ b _ (conv₁_at _ x2 x3 b _ W₁ b₁ s0 h2 h3)
  have s2 := pad₂_at _ b _ s1
  have s3 := pool₂_at _ b _ (conv₂_at _ x4 x5 b _ W₂ b₂ s2 h4 h5)
  exact head_at _ x6 x7 b _ W₃ b₃ s3 h6 h7 q

end Cert.KernelBlock

end
-- ==== Proof.Weights.lean ====
/-
  What the windows of the kernel's launch hold: the essays sixteen at a time, and the weights and biases in the order in
  which the host lays them out before the launch.
-/
module

public import proofs.«01_k».proof.Proof.Gen.KernelIdeal.Value
public import Idealize.ShloMosaic.Lib.Pointwise
public import Idealize.ShloMosaic.Lib.Tactic.CleanTypes

@[expose] public section

set_option maxRecDepth 16384
set_option maxHeartbeats 1000000

noncomputable section

namespace Cert.KernelWeights

open Idealize.ShloMosaic Idealize.ShloMosaic.TcCoe Idealize.ShloMosaic.StableHlo Cert.KernelIdeal Cert.KernelIdeal.Gen

variable (m : (ℓ : Loc nD τ sig) → Buf (Elt Ideal) ℓ) (c : Dev nD)

/-- The first round's weights, one row for each tap and channel. -/
theorem weights₁_at (W : FVec Ideal S32x20x3x3 .f32) (hW : m ((c : Thread nD τ).loc main_arg5) = W) (dh dw : Fin 3)
    (k : Fin 20) (o : Fin 32) :
    V m c main_v1 (ix2 ⟨(dh.val * 3 + dw.val) * 20 + k.val, by omega⟩ o) = W (ix4 o k dh dw) := by
  have h : V m c main_v1 = shapeCast S180x32
      (transpose S3x3x20x32 [2, 3, 1, 0] W transposes_S32x20x3x3_S3x3x20x32_2_3_1_0) shapeCasts_S3x3x20x32_S180x32 := by
    rw [← hW]
    after_results
    rfl
  rw [h]
  pointwise []

/-- The second round's weights, one row for each tap and channel. -/
theorem weights₂_at (W : FVec Ideal S64x32x3x3 .f32) (hW : m ((c : Thread nD τ).loc main_arg7) = W) (dh dw : Fin 3)
    (k : Fin 32) (o : Fin 64) :
    V m c main_v3 (ix2 ⟨(dh.val * 3 + dw.val) * 32 + k.val, by omega⟩ o) = W (ix4 o k dh dw) := by
  have h : V m c main_v3 = shapeCast S288x64
      (transpose S3x3x32x64 [2, 3, 1, 0] W transposes_S64x32x3x3_S3x3x32x64_2_3_1_0) shapeCasts_S3x3x32x64_S288x64 := by
    rw [← hW]
    after_results
    rfl
  rw [h]
  pointwise []

/-- The last map's weights, one row for each row, column and channel of the last picture. -/
theorem weights₃_at (W : FVec Ideal S3x1920 .f32) (hW : m ((c : Thread nD τ).loc main_arg9) = W) (i : Fin 6) (j : Fin 5)
    (k : Fin 64) (q : Fin 3) :
    V m c main_v6 (ix2 ⟨(i.val * 5 + j.val) * 64 + k.val, by omega⟩ q)
      = W (ix2 q ⟨k.val * 30 + i.val * 5 + j.val, by omega⟩) := by
  have h : V m c main_v6 = shapeCast S1920x3 (transpose S6x5x64x3 [2, 3, 1, 0] (shapeCast S3x64x6x5 W shapeCasts_S3x1920_S3x64x6x5)
      transposes_S3x64x6x5_S6x5x64x3_2_3_1_0) shapeCasts_S6x5x64x3_S1920x3 := by
    rw [← hW]
    after_results
    rfl
  rw [h]
  pointwise []

/-- The first bias as one row. -/
theorem bias₁_at (β : FVec Ideal S32 .f32) (hβ : m ((c : Thread nD τ).loc main_arg6) = β) (o : Fin 32) :
    V m c main_v7 (ix2 0 o) = β (ix1 o) := by
  have h : V m c main_v7 = shapeCast S1x32 β shapeCasts_S32_S1x32 := by
    rw [← hβ]
    rfl
  rw [h]
  pointwise []

/-- The second bias as one row. -/
theorem bias₂_at (β : FVec Ideal S64 .f32) (hβ : m ((c : Thread nD τ).loc main_arg8) = β) (o : Fin 64) :
    V m c main_v8 (ix2 0 o) = β (ix1 o) := by
  have h : V m c main_v8 = shapeCast S1x64 β shapeCasts_S64_S1x64 := by
    rw [← hβ]
    rfl
  rw [h]
  pointwise []

/-- The last bias as one row. -/
theorem bias₃_at (β : FVec Ideal S3 .f32) (hβ : m ((c : Thread nD τ).loc main_arg10) = β) (o : Fin 3) :
    V m c main_v9 (ix2 0 o) = β (ix1 o) := by
  have h : V m c main_v9 = shapeCast S1x3 β shapeCasts_S3_S1x3 := by
    rw [← hβ]
    rfl
  rw [h]
  pointwise []

/-- The essays of block `t`. -/
theorem essays_at (X : FVec Ideal S4096x21x768 .f32) (hX : m ((c : Thread nD τ).loc main_arg0) = X) (t : Fin cfg0.N) (b : Fin 16)
    (r : Fin 21) (k : Fin 768) (hb : t.val * 16 + b.val < 4096) :
    iblk m c 0 t (ix3 b r k) = X (ix3 ⟨t.val * 16 + b.val, hb⟩ r k) := by
  have e : ∀ t : Fin cfg0.N, win0_0.index t ⟨0, by decide⟩ = t.val ∧ win0_0.index t ⟨1, by decide⟩ = 0
      ∧ win0_0.index t ⟨2, by decide⟩ = 0 :=
    (by decide +kernel : ∀ t : Fin grid0.N, win0_0.index t ⟨0, by decide⟩ = t.val ∧ win0_0.index t ⟨1, by decide⟩ = 0
      ∧ win0_0.index t ⟨2, by decide⟩ = 0)
  obtain ⟨e0, e1, e2⟩ := e t
  rw [← hX, ← V_main_arg0 m c]
  show V m c main_arg0 ((win0_0.rect t).emb (ix3 b r k)) = _
  refine congrArg (V m c main_arg0) (funext fun a => Fin.ext ?_)
  match a with
  | ⟨0, _⟩ =>
    show win0_0.index t ⟨0, by decide⟩ * 16 + 1 * b.val = t.val * 16 + b.val
    rw [e0, Nat.one_mul]
  | ⟨1, _⟩ =>
    show win0_0.index t ⟨1, by decide⟩ * 21 + 1 * r.val = r.val
    rw [e1]; omega
  | ⟨2, _⟩ =>
    show win0_0.index t ⟨2, by decide⟩ * 768 + 1 * k.val = k.val
    rw [e2]; omega

/-- At every point the window of the bucket table holds the whole array. -/
theorem block1 (t : Fin cfg0.N) : iblk m c 1 t = V m c main_arg4 := by
  have e : ∀ t : Fin cfg0.N, win0_1.index t = fun _ => 0 :=
    (by decide +kernel : ∀ t : Fin grid0.N, win0_1.index t = fun _ => 0)
  funext j
  show V m c main_arg4 ((win0_1.rect t).emb j) = _
  refine congrArg (V m c main_arg4) (funext fun a => Fin.ext ?_)
  show win0_1.index t a * win0_1.size a + 1 * (j a).val = (j a).val
  rw [e, Nat.zero_mul, Nat.zero_add, Nat.one_mul]

/-- At every point the window of the first round's weights holds the whole array. -/
theorem block2 (t : Fin cfg0.N) : iblk m c 2 t = V m c main_v1 := by
  have e : ∀ t : Fin cfg0.N, win0_2.index t = fun _ => 0 :=
    (by decide +kernel : ∀ t : Fin grid0.N, win0_2.index t = fun _ => 0)
  funext j
  show V m c main_v1 ((win0_2.rect t).emb j) = _
  refine congrArg (V m c main_v1) (funext fun a => Fin.ext ?_)
  show win0_2.index t a * win0_2.size a + 1 * (j a).val = (j a).val
  rw [e, Nat.zero_mul, Nat.zero_add, Nat.one_mul]

/-- At every point the window of the first bias holds the whole array. -/
theorem block3 (t : Fin cfg0.N) : iblk m c 3 t = V m c main_v7 := by
  have e : ∀ t : Fin cfg0.N, win0_3.index t = fun _ => 0 :=
    (by decide +kernel : ∀ t : Fin grid0.N, win0_3.index t = fun _ => 0)
  funext j
  show V m c main_v7 ((win0_3.rect t).emb j) = _
  refine congrArg (V m c main_v7) (funext fun a => Fin.ext ?_)
  show win0_3.index t a * win0_3.size a + 1 * (j a).val = (j a).val
  rw [e, Nat.zero_mul, Nat.zero_add, Nat.one_mul]

/-- At every point the window of the second round's weights holds the whole array. -/
theorem block4 (t : Fin cfg0.N) : iblk m c 4 t = V m c main_v3 := by
  have e : ∀ t : Fin cfg0.N, win0_4.index t = fun _ => 0 :=
    (by decide +kernel : ∀ t : Fin grid0.N, win0_4.index t = fun _ => 0)
  funext j
  show V m c main_v3 ((win0_4.rect t).emb j) = _
  refine congrArg (V m c main_v3) (funext fun a => Fin.ext ?_)
  show win0_4.index t a * win0_4.size a + 1 * (j a).val = (j a).val
  rw [e, Nat.zero_mul, Nat.zero_add, Nat.one_mul]

/-- At every point the window of the second bias holds the whole array. -/
theorem block5 (t : Fin cfg0.N) : iblk m c 5 t = V m c main_v8 := by
  have e : ∀ t : Fin cfg0.N, win0_5.index t = fun _ => 0 :=
    (by decide +kernel : ∀ t : Fin grid0.N, win0_5.index t = fun _ => 0)
  funext j
  show V m c main_v8 ((win0_5.rect t).emb j) = _
  refine congrArg (V m c main_v8) (funext fun a => Fin.ext ?_)
  show win0_5.index t a * win0_5.size a + 1 * (j a).val = (j a).val
  rw [e, Nat.zero_mul, Nat.zero_add, Nat.one_mul]

/-- At every point the window of the last map's weights holds the whole array. -/
theorem block6 (t : Fin cfg0.N) : iblk m c 6 t = V m c main_v6 := by
  have e : ∀ t : Fin cfg0.N, win0_6.index t = fun _ => 0 :=
    (by decide +kernel : ∀ t : Fin grid0.N, win0_6.index t = fun _ => 0)
  funext j
  show V m c main_v6 ((win0_6.rect t).emb j) = _
  refine congrArg (V m c main_v6) (funext fun a => Fin.ext ?_)
  show win0_6.index t a * win0_6.size a + 1 * (j a).val = (j a).val
  rw [e, Nat.zero_mul, Nat.zero_add, Nat.one_mul]

/-- At every point the window of the last bias holds the whole array. -/
theorem block7 (t : Fin cfg0.N) : iblk m c 7 t = V m c main_v9 := by
  have e : ∀ t : Fin cfg0.N, win0_7.index t = fun _ => 0 :=
    (by decide +kernel : ∀ t : Fin grid0.N, win0_7.index t = fun _ => 0)
  funext j
  show V m c main_v9 ((win0_7.rect t).emb j) = _
  refine congrArg (V m c main_v9) (funext fun a => Fin.ext ?_)
  show win0_7.index t a * win0_7.size a + 1 * (j a).val = (j a).val
  rw [e, Nat.zero_mul, Nat.zero_add, Nat.one_mul]

end Cert.KernelWeights

end
-- ==== Proof.KernelResult.lean ====
/-
  What the kernel's output array holds after the launch: the scores of every essay.
-/
module

public import proofs.«01_k».proof.Proof.Block
public import proofs.«01_k».proof.Proof.Weights

@[expose] public section

set_option maxRecDepth 16384
set_option maxHeartbeats 1000000

noncomputable section

namespace Cert.KernelResult

open Idealize.ShloMosaic Idealize.ShloMosaic.TcCoe Idealize.SL.Sem Cert.KernelIdeal Cert.KernelIdeal.Gen Cert.Network
open Idealize.ShloMosaic.Pipeline (Dat)

variable (m : (ℓ : Loc nD τ sig) → Buf (Elt Ideal) ℓ) (c : Dev nD)

/-- The scores of every essay, from the arguments in memory. -/
abbrev answer : Buf (Elt Ideal) ((c : Thread nD τ).loc main_v10) :=
  result (m ((c : Thread nD τ).loc main_arg0)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- The output's block of point `t` is rows `16 t` to `16 t + 15`, all three columns. -/
theorem place : ∀ t : Fin cfg0.N, win0_8.index t ⟨0, by decide⟩ = t.val ∧ win0_8.index t ⟨1, by decide⟩ = 0 :=
  (by decide +kernel : ∀ t : Fin grid0.N, win0_8.index t ⟨0, by decide⟩ = t.val ∧ win0_8.index t ⟨1, by decide⟩ = 0)

/-- What point `t` writes back is its block of the scores. -/
theorem flushed_eq (t : Fin cfg0.N) :
    (Gen.dats m 0 c).flushed 8 t = ((cfg0.win 8).blk t).view.read (Elt Ideal) (answer m c) := by
  rw [Value.flushed8]
  funext j
  obtain ⟨b, q, rfl⟩ : ∃ (b : Fin 16) (q : Fin 3), j = ix2 b q := ⟨j 0, j 1, eq_ix2 j⟩
  have ht : t.val < 256 := lt_of_lt_of_eq t.isLt N_0
  have hb : t.val * 16 + b.val < 4096 := by omega
  obtain ⟨e0, e1⟩ := place t
  have hr : ((cfg0.win 8).blk t).view.read (Elt Ideal) (answer m c) (ix2 b q) = answer m c (ix2 ⟨t.val * 16 + b.val, hb⟩ q) := by
    show answer m c ((win0_8.rect t).emb (ix2 b q)) = _
    refine congrArg (answer m c) (funext fun a => Fin.ext ?_)
    match a with
    | ⟨0, _⟩ =>
      show win0_8.index t ⟨0, by decide⟩ * 16 + 1 * b.val = t.val * 16 + b.val
      rw [e0, Nat.one_mul]
    | ⟨1, _⟩ =>
      show win0_8.index t ⟨1, by decide⟩ * 3 + 1 * q.val = q.val
      rw [e1]; omega
  rw [hr, KernelWeights.block1, KernelWeights.block2, KernelWeights.block3, KernelWeights.block4, KernelWeights.block5,
    KernelWeights.block6, KernelWeights.block7, V_main_arg4]
  refine (KernelBlock.out_at _ _ _ _ _ _ _ _ _ _ _ _
    (fun q k => (m ((c : Thread nD τ).loc main_arg9) : FVec Ideal S3x1920 .f32) (ix2 q k)) _
    (KernelWeights.weights₁_at m c _ rfl) (KernelWeights.bias₁_at m c _ rfl)
    (KernelWeights.weights₂_at m c _ rfl) (KernelWeights.bias₂_at m c _ rfl) (KernelWeights.weights₃_at m c _ rfl)
    (KernelWeights.bias₃_at m c _ rfl) b q).trans ?_
  have hx : (fun (r : Fin 21) (k : Fin 768) => iblk m c 0 t (ix3 b r k))
      = fun r k => (m ((c : Thread nD τ).loc main_arg0) : FVec Ideal S4096x21x768 .f32) (ix3 ⟨t.val * 16 + b.val, hb⟩ r k) :=
    funext fun r => funext fun k => KernelWeights.essays_at m c _ rfl t b r k hb
  rw [hx]
  rfl

/-- An index of the output lies in point `t`'s block when its row does. -/
theorem mem_block (t : Fin cfg0.N) (i : S4096x3.Idx) (h : t.val * 16 ≤ (i 0 : Nat) ∧ (i 0 : Nat) < t.val * 16 + 16) :
    i ∈ ((cfg0.win 8).blk t).view.set := by
  show i ∈ ((View.whole main_v10).slice (win0_8.rect t)).set
  rw [View.set_slice_whole, Rect.mem_set_unit]
  obtain ⟨e0, e1⟩ := place t
  have h1 : (i 1 : Nat) < 3 := (i 1).isLt
  intro a
  match a with
  | ⟨0, _⟩ =>
    show win0_8.index t ⟨0, by decide⟩ * 16 ≤ (i 0 : Nat) ∧ (i 0 : Nat) < win0_8.index t ⟨0, by decide⟩ * 16 + 16
    rw [e0]; exact h
  | ⟨1, _⟩ =>
    show win0_8.index t ⟨1, by decide⟩ * 3 ≤ (i 1 : Nat) ∧ (i 1 : Nat) < win0_8.index t ⟨1, by decide⟩ * 3 + 3
    rw [e1]; omega

/-- The blocks cover the output. -/
theorem cover (i : S4096x3.Idx) : ∃ t : Fin cfg0.N, (cfg0.win 8).flush t = true ∧ i ∈ ((cfg0.win 8).blk t).view.set := by
  have h0 : (i 0 : Nat) < 4096 := (i 0).isLt
  have hN : cfg0.N = 256 := N_0
  refine ⟨⟨(i 0 : Nat) / 16, by omega⟩, flush0_8 _, mem_block _ i ?_⟩
  dsimp only
  omega

/-- The output array after the launch holds the scores of every essay. -/
theorem array_eq : (Gen.dats m 0 c).arrAt 8 cfg0.N = answer m c :=
  (Gen.dats m 0 c).arrAt_eq_of_cover 8 (answer m c) (fun t _ => flushed_eq m c t) cover

end Cert.KernelResult

end
-- ==== Proof.Windows.lean ====
/-
  What the two host operations that move data by position hold at an index: rows gathered from a table by a word per
  position, and the largest of each two-by-two window of a picture.
-/
module

public import Idealize.ShloMosaic.Lib.Pointwise

@[expose] public section
noncomputable section

namespace Cert.Windows
open Idealize.ShloMosaic

/-- The dimension numbers of a gather of whole rows of an `N × K` table, a row for each entry of an `A × B × C` array. -/
abbrev rowDims (N K A B C : ℕ)
    (wf : GatherDims.WF ⟨2, ![N, K]⟩ ⟨4, ![A, B, C, 1]⟩ ⟨4, ![A, B, C, K]⟩ [3] [0] [] [0] [] 3 ![1, K]) :
    GatherDims ⟨2, ![N, K]⟩ ⟨4, ![A, B, C, 1]⟩ ⟨4, ![A, B, C, K]⟩ where
  offsetDims := [3]
  collapsedSliceDims := [0]
  operandBatchingDims := []
  startIndicesBatchingDims := []
  startIndexMap := [0]
  indexVectorDim := 3
  sliceSizes := ![1, K]
  wf := wf

/-- Rows of a table taken by a picture of words: the entry at `(b, u, v, l)` is entry `l` of the row that the word
    at `(b, u, v)` names, when that word is a row number. -/
theorem rows_at {α : Type} {N K A B C : ℕ}
    (wf : GatherDims.WF ⟨2, ![N, K]⟩ ⟨4, ![A, B, C, 1]⟩ ⟨4, ![A, B, C, K]⟩ [3] [0] [] [0] [] 3 ![1, K])
    (x : (⟨2, ![N, K]⟩ : Shape).Idx → α) (idx : IVec ⟨4, ![A, B, C, 1]⟩ 32)
    (b : Fin A) (u : Fin B) (v : Fin C) (l : Fin K) (t : Fin N) (hN : N ≤ 2 ^ 31)
    (ht : idx (ix4 b u v 0) = BitVec.ofNat 32 t.val) :
    Host.gather (rowDims N K A B C wf) x idx (ix4 b u v l) = x (ix2 t l) := by
  set d := rowDims N K A B C wf with hd
  have h32 : (idx (ix4 b u v 0)).toInt.toNat = t.val := by
    have := t.isLt
    rw [ht, BitVec.toInt_eq_toNat_of_lt] <;> rw [BitVec.toNat_ofNat] <;> omega
  refine congrArg x (funext fun a => Fin.ext ?_)
  show d.start (ix4 b u v l) idx a + d.batchCoord (ix4 b u v l) a + d.offCoord (ix4 b u v l) a = _
  rw [GatherDims.batchCoord_eq_zero _ _ _ (by simp [hd]), Nat.add_zero]
  match a with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by omega⟩ : Fin 2) ∈ d.startIndexMap from List.mem_singleton.mpr rfl)]
    have hsi : d.siIdx (ix4 b u v l) ⟨List.idxOf (0 : Fin 2) d.startIndexMap,
        List.idxOf_lt_length_iff.2 (List.mem_singleton.mpr rfl)⟩ = ix4 b u v 0 := by
      funext e; refine Fin.ext ?_
      match e with
      | ⟨0, _⟩ => rfl
      | ⟨1, _⟩ => rfl
      | ⟨2, _⟩ => rfl
      | ⟨3, _⟩ => rfl
    have := t.isLt
    refine (congrArg (fun w : BitVec 32 => min w.toInt.toNat (N - 1)) (congrArg idx hsi)).trans ?_
    show min _ _ = t.val
    rw [h32]; omega
  | ⟨1, _⟩ =>
    unfold GatherDims.start
    rw [dif_neg (by simp [hd]), Nat.zero_add]
    rfl

/-- The largest of a two-by-two window, started from the least value: the entry at `(a, b, i, j)` is the largest of
    the four entries at rows `2i`, `2i+1` and columns `2j`, `2j+1`. -/
theorem window_at {A B H W H' W' : ℕ} {u : Shape} (x : (⟨4, ![A, B, H, W]⟩ : Shape).Idx → EReal)
    (init : u.Idx → EReal) (hinit : ∀ i, init i = ⊥)
    (h : (⟨4, ![A, B, H, W]⟩ : Shape).ReduceWindows ![1, 1, 2, 2] ![1, 1, 2, 2] ![0, 0, 0, 0] ![0, 0, 0, 0]
      ⟨4, ![A, B, H', W']⟩) (hu : 0 < u.numel)
    (a : Fin A) (b : Fin B) (i : Fin H') (j : Fin W') (hi : 2 * i.val + 1 < H) (hj : 2 * j.val + 1 < W) :
    Host.reduceWindow (s := ⟨4, ![A, B, H, W]⟩) (t := ⟨4, ![A, B, H', W']⟩) max ![1, 1, 2, 2] ![1, 1, 2, 2]
      ![0, 0, 0, 0] ![0, 0, 0, 0] x init h hu (ix4 a b i j)
      = max (max (x (ix4 a b ⟨2 * i.val, by omega⟩ ⟨2 * j.val, by omega⟩))
            (x (ix4 a b ⟨2 * i.val + 1, by omega⟩ ⟨2 * j.val, by omega⟩)))
          (max (x (ix4 a b ⟨2 * i.val, by omega⟩ ⟨2 * j.val + 1, by omega⟩))
            (x (ix4 a b ⟨2 * i.val + 1, by omega⟩ ⟨2 * j.val + 1, by omega⟩))) := by
  have key : ∀ (n : Fin (⟨4, ![1, 1, 2, 2]⟩ : Shape).numel) (p q : Fin 2),
      ((⟨4, ![1, 1, 2, 2]⟩ : Shape).rowMajor.symm n = ix4 0 0 p q) →
      (if hin : ∀ e : Fin 4, (![0, 0, 0, 0] : Fin 4 → ℕ) e
            ≤ (ix4 a b i j (e.cast h.1.symm)).val * (![1, 1, 2, 2] : Fin 4 → ℕ) e
              + ((⟨4, ![1, 1, 2, 2]⟩ : Shape).rowMajor.symm n e).val
          ∧ (ix4 a b i j (e.cast h.1.symm)).val * (![1, 1, 2, 2] : Fin 4 → ℕ) e
              + ((⟨4, ![1, 1, 2, 2]⟩ : Shape).rowMajor.symm n e).val - (![0, 0, 0, 0] : Fin 4 → ℕ) e
            < (⟨4, ![A, B, H, W]⟩ : Shape).size e
        then x (fun e => ⟨_, (hin e).2⟩) else init (Shape.Idx.first hu))
        = x (ix4 a b ⟨2 * i.val + p.val, by omega⟩ ⟨2 * j.val + q.val, by omega⟩) := by
    intro n p q hn
    rw [hn]
    have ha := a.isLt
    have hb := b.isLt
    have hp := p.isLt
    have hq := q.isLt
    have h0 : ∀ e : Fin 4, (ix4 a b i j (e.cast h.1.symm)).val * (![1, 1, 2, 2] : Fin 4 → ℕ) e
        + (ix4 (0 : Fin 1) (0 : Fin 1) p q e).val - (![0, 0, 0, 0] : Fin 4 → ℕ) e
        = (ix4 a b (⟨2 * i.val + p.val, by omega⟩ : Fin H) (⟨2 * j.val + q.val, by omega⟩ : Fin W) e).val := by
      intro e
      match e with
      | ⟨0, _⟩ => show a.val * 1 + 0 - 0 = a.val; omega
      | ⟨1, _⟩ => show b.val * 1 + 0 - 0 = b.val; omega
      | ⟨2, _⟩ => show i.val * 2 + p.val - 0 = 2 * i.val + p.val; omega
      | ⟨3, _⟩ => show j.val * 2 + q.val - 0 = 2 * j.val + q.val; omega
    rw [dif_pos]
    · exact congrArg x (funext fun e => Fin.ext (h0 e))
    · intro e
      refine ⟨?_, ?_⟩
      · match e with
        | ⟨0, _⟩ => exact Nat.zero_le _
        | ⟨1, _⟩ => exact Nat.zero_le _
        | ⟨2, _⟩ => exact Nat.zero_le _
        | ⟨3, _⟩ => exact Nat.zero_le _
      · rw [h0 e]
        exact Fin.isLt _
  have hl : List.finRange (⟨4, ![1, 1, 2, 2]⟩ : Shape).numel
      = [(⟨0, by decide⟩ : Fin (⟨4, ![1, 1, 2, 2]⟩ : Shape).numel), ⟨1, by decide⟩, ⟨2, by decide⟩, ⟨3, by decide⟩] := by
    decide
  unfold Host.reduceWindow
  simp only []
  refine (congrArg (List.foldl _ _) hl).trans ?_
  simp only [List.foldl_cons, List.foldl_nil]
  refine (congr (congrArg max (congr (congrArg max (congr (congrArg max (congr (congrArg max (hinit _))
    (key ⟨0, by decide⟩ 0 0 ?_))) (key ⟨1, by decide⟩ 0 1 ?_))) (key ⟨2, by decide⟩ 1 0 ?_)))
    (key ⟨3, by decide⟩ 1 1 ?_)).trans ?_
  · funext e; revert e; decide +kernel
  · funext e; revert e; decide +kernel
  · funext e; revert e; decide +kernel
  · funext e; revert e; decide +kernel
  simp only [bot_le, max_eq_right]
  simp only [Fin.val_zero, Fin.val_one, Nat.add_zero]
  ac_rfl

end Cert.Windows

end
-- ==== Proof.RefPicture.lean ====
/-
  The pictures that the reference computes: the cosine table of each essay, its buckets, and the rows that the buckets
  take from the table, with zeros around.
-/
module

public import proofs.«01_k».proof.Proof.Gen.ReferenceIdeal.Run
public import Idealize.ShloMosaic.Lib.Tactic.CleanTypes
public import proofs.«01_k».proof.Proof.Network
public import proofs.«01_k».proof.Proof.Bucket
public import proofs.«01_k».proof.Proof.Windows

@[expose] public section

set_option maxRecDepth 16384
set_option maxHeartbeats 1000000

noncomputable section

namespace Cert.ReferencePictures

open Idealize.ShloMosaic Idealize.ShloMosaic.StableHlo Cert.ReferenceIdeal Cert.ReferenceIdeal.Gen Cert.ReferenceIdeal.Value Cert.Network Cert.Windows

/-- The reference's cosines. -/
theorem cosine_at (V0 : Valuation τ sig (Elt Ideal)) (x : FVec Ideal S4096x21x768 .f32)
    (hx : V0 (Proc.devRef .tc main_arg0) = x) (b : Fin 4096) (p q : Fin 20) :
    res_main_v9 (F := Ideal) V0 (ix3 b p q) = cosine (fun r k => x (ix3 b r k)) p.castSucc q.castSucc := by
  unfold res_main_v9 res_main_v7
  rw [hx]
  clean_types
  pointwise []
  rfl

/-- The reference's buckets are those of the cosines. -/
theorem bins_at (V0 : Valuation τ sig (Elt Ideal)) (x : FVec Ideal S4096x21x768 .f32)
    (hx : V0 (Proc.devRef .tc main_arg0) = x) (b : Fin 4096) (p q : Fin 20) :
    res_main_v21 (F := Ideal) V0 (ix3 b p q) = bin (cosine (fun r k => x (ix3 b r k)) p.castSucc q.castSucc) := by
  have h := cosine_at V0 x hx b p q
  unfold res_main_v21
  generalize res_main_v9 (F := Ideal) V0 = y at h ⊢
  clean_types
  pointwise []
  rw [h]
  unfold bin
  rfl

/-- The rows that the buckets take from the table: the pictures. -/
theorem rows_of_bins (y : IVec S4096x20x20 32) (E : FVec Ideal S12x16 .f32) (b : Fin 4096) (c u : Fin 20) (v : Fin 16)
    (r : EReal) (hy : y (ix3 b c u) = bin r) :
    Host.gather gather_S12x16_S4096x20x20x1_S4096x20x20x16_3_0_n_n_0_3_116 E
      (broadcastInDim S4096x20x20x1 ![0, 1, 2] bcast_S4096x20x20_S4096x20x20x1_0_1_2
        (select (cmpi .slt y (broadcastInDim S4096x20x20 ![] bcast_S_S4096x20x20 (constantI S_ 32 0#32)))
          (addi y (broadcastInDim S4096x20x20 ![] bcast_S_S4096x20x20 (constantI S_ 32 12#32))) y)) (ix4 b c u v)
      = E (ix2 (bucket r) v) := by
  refine rows_at gather_S12x16_S4096x20x20x1_S4096x20x20x16_3_0_n_n_0_3_116_wf E _ b c u v (bucket r) (by norm_num) ?_
  obtain ⟨e, -⟩ := bin_eq r
  rw [e] at hy
  generalize bucket r = t at hy ⊢
  pointwise []
  rw [hy]
  clear hy
  revert t
  decide +kernel

/-- The reference's padded pictures. -/
theorem padded_at (V0 : Valuation τ sig (Elt Ideal)) (x : FVec Ideal S4096x21x768 .f32) (E : FVec Ideal S12x16 .f32)
    (hx : V0 (Proc.devRef .tc main_arg0) = x) (hE : V0 (Proc.devRef .tc main_arg4) = E)
    (b : Fin 4096) (c : Fin 20) (u : Fin 24) (v : Fin 20) :
    res_main_v29 (F := Ideal) V0 (ix4 b c u v)
      = padded 20 16 (picture (fun r k => x (ix3 b r k)) (fun k l => E (ix2 k l))) c u v := by
  have h := fun q => bins_at V0 x hx b c q
  unfold res_main_v29
  rw [hE]
  generalize res_main_v21 (F := Ideal) V0 = y at h ⊢
  have h0 : ((((0#32).toInt : ℝ)) : EReal) = 0 := by simp
  have g := fun (u : Fin 20) (v : Fin 16) => rows_of_bins y E b c u v _ (h u)
  clean_types
  generalize Host.gather _ E _ = G at g ⊢
  pointwise [h0, padded]
  split_ifs
  · rw [g]
    unfold picture
    rw [show (Fin.ofNat 21 (u.val - 2) : Fin 21) = (⟨u.val - 2, by omega⟩ : Fin 20).castSucc from
        Fin.ext (Nat.mod_eq_of_lt (by omega)),
      show (Fin.ofNat 16 (v.val - 2) : Fin 16) = ⟨v.val - 2, by omega⟩ from Fin.ext (Nat.mod_eq_of_lt (by omega))]
  all_goals first | rfl | omega

end Cert.ReferencePictures

end
-- ==== Proof.RefRounds.lean ====
/-
  The reference's two rounds and its linear map, each read at an index: the sum of nine shifted products is the
  correlation, and the rest is as in the network.
-/
module

public import proofs.«01_k».proof.Proof.Gen.ReferenceIdeal.Run
public import Idealize.ShloMosaic.Lib.Tactic.CleanTypes
public import proofs.«01_k».proof.Proof.Network
public import proofs.«01_k».proof.Proof.Windows

@[expose] public section

set_option maxRecDepth 16384
set_option maxHeartbeats 1000000

noncomputable section

namespace Cert.ReferenceRounds

open Idealize.ShloMosaic Idealize.ShloMosaic.StableHlo Cert.ReferenceIdeal Cert.ReferenceIdeal.Gen Cert.ReferenceIdeal.Value Cert.Network Cert.Windows

/-- The word that the maxima start from is the least value. -/
theorem neg_infinity : Ideal.ofBits .f32 0xFF800000#32 = ⊥ := by
  simp [Ideal.ofBits, Ideal.ieee]

/-- The 3 × 3 correlation without bias and rectifier. -/
def correlation {C O : ℕ} (P : Fin C → ℕ → ℕ → EReal) (W : Fin O → Fin C → Fin 3 → Fin 3 → EReal) : Fin O → ℕ → ℕ → EReal :=
  fun o i j => ∑ dh : Fin 3, ∑ dw : Fin 3, ∑ c : Fin C, P c (i + dh) (j + dw) * W o c dh dw

/-- The nine shifted products of the first round are the correlation. -/
theorem products₁_at (V0 : Valuation τ sig (Elt Ideal)) (W : FVec Ideal S32x20x3x3 .f32)
    (hW : V0 (Proc.devRef .tc main_arg5) = W) (b : Fin 4096) (P : Fin 20 → ℕ → ℕ → EReal)
    (hP : ∀ (c : Fin 20) (u : Fin 24) (v : Fin 20), res_main_v29 (F := Ideal) V0 (ix4 b c u v) = P c u v)
    (o : Fin 32) (i : Fin 22) (j : Fin 18) :
    res_main_v84 (F := Ideal) V0 (ix4 b o i j)
      = correlation P (fun o c dh dw => W (ix4 o c dh dw)) o i j := by
  unfold res_main_v84 correlation
  rw [hW]
  generalize res_main_v29 (F := Ideal) V0 = x at hP ⊢
  have h0 : ((0 : Fin 3) : ℕ) = 0 := rfl
  have h1 : ((1 : Fin 3) : ℕ) = 1 := rfl
  have h2 : ((2 : Fin 3) : ℕ) = 2 := rfl
  clean_types
  pointwise []
  simp only [Fin.sum_univ_three, hP, h0, h1, h2, Nat.zero_add, Nat.add_comm i.val, Nat.add_comm j.val, mul_comm (W _),
    ← add_assoc]

/-- The nine shifted products of the second round are the correlation. -/
theorem products₂_at (V0 : Valuation τ sig (Elt Ideal)) (W : FVec Ideal S64x32x3x3 .f32)
    (hW : V0 (Proc.devRef .tc main_arg7) = W) (b : Fin 4096) (P : Fin 32 → ℕ → ℕ → EReal)
    (hP : ∀ (c : Fin 32) (u : Fin 15) (v : Fin 13), res_main_v91 (F := Ideal) V0 (ix4 b c u v) = P c u v)
    (o : Fin 64) (i : Fin 13) (j : Fin 11) :
    res_main_v146 (F := Ideal) V0 (ix4 b o i j)
      = correlation P (fun o c dh dw => W (ix4 o c dh dw)) o i j := by
  unfold res_main_v146 correlation
  rw [hW]
  generalize res_main_v91 (F := Ideal) V0 = x at hP ⊢
  have h0 : ((0 : Fin 3) : ℕ) = 0 := rfl
  have h1 : ((1 : Fin 3) : ℕ) = 1 := rfl
  have h2 : ((2 : Fin 3) : ℕ) = 2 := rfl
  clean_types
  pointwise []
  simp only [Fin.sum_univ_three, hP, h0, h1, h2, Nat.zero_add, Nat.add_comm i.val, Nat.add_comm j.val, mul_comm (W _),
    ← add_assoc]

/-- The bias and the rectifier of the first round, and the largest of each 2 × 2 square. -/
theorem pooled₁_at (y : FVec Ideal S4096x32x22x18 .f32) (β : FVec Ideal S32 .f32) (b : Fin 4096) (s : Fin 32 → ℕ → ℕ → EReal)
    (hy : ∀ (o : Fin 32) (i : Fin 22) (j : Fin 18), y (ix4 b o i j) = s o i j) (o : Fin 32) (i : Fin 11) (j : Fin 9) :
    Host.reduceWindow FloatOps.maximumf ![1, 1, 2, 2] ![1, 1, 2, 2] ![0, 0, 0, 0] ![0, 0, 0, 0]
      (maximumf (addf y (broadcastInDim S4096x32x22x18 ![0, 1, 2, 3] bcast_S1x32x1x1_S4096x32x22x18_0_1_2_3
          (broadcastInDim S1x32x1x1 ![1] bcast_S32_S1x32x1x1_1 β)))
        (broadcastInDim S4096x32x22x18 ![] bcast_S_S4096x32x22x18 (constant S_ .f32 0x00000000#32)))
      (broadcastInDim S_ ![] bcast_S_S_ (constant S_ .f32 0xFF800000#32))
      reduceWindows_S4096x32x22x18_S4096x32x11x9_w1s1p0_0_w1s1p0_0_w2s2p0_0_w2s2p0_0 h_S_ (ix4 b o i j)
      = pool (fun o i j => max (s o i j + β (ix1 o)) 0) o i j := by
  refine (window_at _ _ ?_ _ _ b o i j (by omega) (by omega)).trans ?_
  · intro e
    exact neg_infinity
  pointwise []
  simp only [hy, Network.pool]

/-- The bias and the rectifier of the second round, and the largest of each 2 × 2 square. -/
theorem pooled₂_at (y : FVec Ideal S4096x64x13x11 .f32) (β : FVec Ideal S64 .f32) (b : Fin 4096) (s : Fin 64 → ℕ → ℕ → EReal)
    (hy : ∀ (o : Fin 64) (i : Fin 13) (j : Fin 11), y (ix4 b o i j) = s o i j) (o : Fin 64) (i : Fin 6) (j : Fin 5) :
    Host.reduceWindow FloatOps.maximumf ![1, 1, 2, 2] ![1, 1, 2, 2] ![0, 0, 0, 0] ![0, 0, 0, 0]
      (maximumf (addf y (broadcastInDim S4096x64x13x11 ![0, 1, 2, 3] bcast_S1x64x1x1_S4096x64x13x11_0_1_2_3
          (broadcastInDim S1x64x1x1 ![1] bcast_S64_S1x64x1x1_1 β)))
        (broadcastInDim S4096x64x13x11 ![] bcast_S_S4096x64x13x11 (constant S_ .f32 0x00000000#32)))
      (broadcastInDim S_ ![] bcast_S_S_ (constant S_ .f32 0xFF800000#32))
      reduceWindows_S4096x64x13x11_S4096x64x6x5_w1s1p0_0_w1s1p0_0_w2s2p0_0_w2s2p0_0 h_S_ (ix4 b o i j)
      = pool (fun o i j => max (s o i j + β (ix1 o)) 0) o i j := by
  refine (window_at _ _ ?_ _ _ b o i j (by omega) (by omega)).trans ?_
  · intro e
    exact neg_infinity
  pointwise []
  simp only [hy, Network.pool]

/-- The zeros around the pictures of the second round. -/
theorem padded₂_at (x : FVec Ideal S4096x32x11x9 .f32) (b : Fin 4096) (y : Fin 32 → ℕ → ℕ → EReal)
    (hx : ∀ (c : Fin 32) (u : Fin 11) (v : Fin 9), x (ix4 b c u v) = y c u v) (c : Fin 32) (u : Fin 15) (v : Fin 13) :
    pad S4096x32x15x13 ![0, 0, 2, 2] ![0, 0, 2, 2] ![0, 0, 0, 0] x (sitofp .f32 (constantI S_ 32 0#32))
      pads_S4096x32x11x9_S4096x32x15x13_000_000_220_220 h_S_ (ix4 b c u v) = padded 11 9 y c u v := by
  have h0 : ((((0#32).toInt : ℝ)) : EReal) = 0 := by simp
  pointwise [h0, hx, padded]
  split_ifs <;> first | rfl | omega

/-- The scores: the 1920 values in the order channel, row, column. -/
theorem scores_at (x : FVec Ideal S4096x64x6x5 .f32) (W : FVec Ideal S3x1920 .f32) (β : FVec Ideal S3 .f32) (b : Fin 4096)
    (z : Fin 64 → ℕ → ℕ → EReal) (hx : ∀ (c : Fin 64) (i : Fin 6) (j : Fin 5), x (ix4 b c i j) = z c i j) (q : Fin 3) :
    addf (Host.dotGeneral dot_S4096x1920_S1920x3_S4096x3_1_0_0_1_n_n none (shapeCast _ x shapeCasts_S4096x64x6x5_S4096x1920)
        (transpose S1920x3 [1, 0] W transposes_S3x1920_S1920x3_1_0))
      (broadcastInDim S4096x3 ![0, 1] bcast_S1x3_S4096x3_0_1 (broadcastInDim S1x3 ![1] bcast_S3_S1x3_1 β)) (ix2 b q)
      = scores z (fun q k => W (ix2 q k)) (fun q => β (ix1 q)) q := by
  have hs : ∀ (c : Fin 64) (i : Fin 6) (j : Fin 5),
      x (ix4 b ⟨(c.val * 30 + (i.val * 5 + j.val)) / 30, by omega⟩ ⟨(c.val * 30 + (i.val * 5 + j.val)) / 5 % 6, by omega⟩
        ⟨(c.val * 30 + (i.val * 5 + j.val)) % 5, by omega⟩) = z c i j := fun c i j => by
    rw [← hx]
    exact congrArg x (congr (congr (congrArg (ix4 b) (Fin.ext (by simp only []; omega))) (Fin.ext (by simp only []; omega)))
      (Fin.ext (by simp only []; omega)))
  have hw : ∀ (c : Fin 64) (i : Fin 6) (j : Fin 5),
      (⟨c.val * 30 + (i.val * 5 + j.val), by omega⟩ : Fin 1920) = ⟨c.val * 30 + i.val * 5 + j.val, by omega⟩ :=
    fun c i j => Fin.ext (Nat.add_assoc _ _ _).symm
  have ht : ∀ f : Fin 30 → EReal, ∑ k, f k = ∑ i : Fin 6, ∑ j : Fin 5, f ⟨i.val * 5 + j.val, by omega⟩ :=
    fun f => Fin.sum_univ_tiles 6 5 rfl f
  pointwise []
  unfold scores
  rw [Fin.sum_univ_tiles 64 30 rfl]
  simp only [ht, hs, hw]

end Cert.ReferenceRounds

end
-- ==== Proof.RefResult.lean ====
/-
  What the reference computes: the scores of every essay.
-/
module

public import proofs.«01_k».proof.Proof.RefPicture
public import proofs.«01_k».proof.Proof.RefRounds
public import proofs.«01_k».proof.Proof.Result

@[expose] public section

set_option maxRecDepth 16384
set_option maxHeartbeats 1000000

noncomputable section

namespace Cert.ReferenceResult

open Idealize.ShloMosaic Idealize.ShloMosaic.StableHlo Cert.ReferenceIdeal Cert.ReferenceIdeal.Gen Cert.ReferenceIdeal.Value Cert.Network

/-- The reference's padded pictures of the second round. -/
theorem second_padded_at (V0 : Valuation τ sig (Elt Ideal)) (X : FVec Ideal S4096x21x768 .f32) (E : FVec Ideal S12x16 .f32)
    (W₁ : FVec Ideal S32x20x3x3 .f32) (b₁ : FVec Ideal S32 .f32)
    (hX : V0 (Proc.devRef .tc main_arg0) = X) (hE : V0 (Proc.devRef .tc main_arg4) = E)
    (hW₁ : V0 (Proc.devRef .tc main_arg5) = W₁) (hb₁ : V0 (Proc.devRef .tc main_arg6) = b₁)
    (b : Fin 4096) (c : Fin 32) (u : Fin 15) (v : Fin 13) :
    res_main_v91 (F := Ideal) V0 (ix4 b c u v)
      = padded 11 9 (first (fun r k => X (ix3 b r k)) (fun k l => E (ix2 k l)) (fun o c dh dw => W₁ (ix4 o c dh dw))
          (fun o => b₁ (ix1 o))) c u v := by
  have h := ReferenceRounds.products₁_at V0 W₁ hW₁ b _ (ReferencePictures.padded_at V0 X E hX hE b)
  unfold res_main_v91
  rw [hb₁]
  generalize res_main_v84 (F := Ideal) V0 = y at h ⊢
  clean_types
  have g := ReferenceRounds.pooled₁_at y b₁ b _ h
  exact ReferenceRounds.padded₂_at _ b _ g c u v

/-- The reference's result is the scores of every essay. -/
theorem result_eq (V0 : Valuation τ sig (Elt Ideal)) (X : FVec Ideal S4096x21x768 .f32) (E : FVec Ideal S12x16 .f32)
    (W₁ : FVec Ideal S32x20x3x3 .f32) (b₁ : FVec Ideal S32 .f32) (W₂ : FVec Ideal S64x32x3x3 .f32) (b₂ : FVec Ideal S64 .f32)
    (W₃ : FVec Ideal S3x1920 .f32) (b₃ : FVec Ideal S3 .f32)
    (hX : V0 (Proc.devRef .tc main_arg0) = X) (hE : V0 (Proc.devRef .tc main_arg4) = E)
    (hW₁ : V0 (Proc.devRef .tc main_arg5) = W₁) (hb₁ : V0 (Proc.devRef .tc main_arg6) = b₁)
    (hW₂ : V0 (Proc.devRef .tc main_arg7) = W₂) (hb₂ : V0 (Proc.devRef .tc main_arg8) = b₂)
    (hW₃ : V0 (Proc.devRef .tc main_arg9) = W₃) (hb₃ : V0 (Proc.devRef .tc main_arg10) = b₃) :
    addf (Host.dotGeneral (φ₁ := .f32) (φ₂ := .f32) dot_S4096x1920_S1920x3_S4096x3_1_0_0_1_n_n none
        (shapeCast _ (Host.reduceWindow FloatOps.maximumf ![1, 1, 2, 2] ![1, 1, 2, 2] ![0, 0, 0, 0] ![0, 0, 0, 0]
          (maximumf (addf (res_main_v146 (F := Ideal) V0)
            (broadcastInDim S4096x64x13x11 ![0, 1, 2, 3] bcast_S1x64x1x1_S4096x64x13x11_0_1_2_3
              (broadcastInDim S1x64x1x1 ![1] bcast_S64_S1x64x1x1_1 (V0 (Proc.devRef .tc main_arg8) : FVec Ideal S64 .f32))))
            (broadcastInDim S4096x64x13x11 ![] bcast_S_S4096x64x13x11 (constant S_ .f32 0x00000000#32)))
          (broadcastInDim S_ ![] bcast_S_S_ (constant S_ .f32 0xFF800000#32))
          reduceWindows_S4096x64x13x11_S4096x64x6x5_w1s1p0_0_w1s1p0_0_w2s2p0_0_w2s2p0_0 h_S_)
          shapeCasts_S4096x64x6x5_S4096x1920)
        (transpose (α := Ideal .f32) S1920x3 [1, 0] (V0 (Proc.devRef .tc main_arg9) : FVec Ideal S3x1920 .f32) transposes_S3x1920_S1920x3_1_0))
      (broadcastInDim S4096x3 ![0, 1] bcast_S1x3_S4096x3_0_1 (broadcastInDim S1x3 ![1] bcast_S3_S1x3_1 (V0 (Proc.devRef .tc main_arg10) : FVec Ideal S3 .f32)))
      = result X E W₁ b₁ W₂ b₂ W₃ b₃ := by
  funext j
  obtain ⟨b, q, rfl⟩ : ∃ (b : Fin 4096) (q : Fin 3), j = ix2 b q := ⟨j 0, j 1, eq_ix2 j⟩
  have h := ReferenceRounds.products₂_at V0 W₂ hW₂ b _ (second_padded_at V0 X E W₁ b₁ hX hE hW₁ hb₁ b)
  rw [hb₂, hW₃, hb₃]
  generalize res_main_v146 (F := Ideal) V0 = y at h ⊢
  clean_types
  have g := ReferenceRounds.pooled₂_at y b₂ b _ h
  exact ReferenceRounds.scores_at _ W₃ b₃ b _ g q

end Cert.ReferenceResult

end
-- ==== Proof.lean ====
/-
  The certificate: the three programs run, leave their arguments as they were and end with every counter at zero; the
  idealized kernel is the printed kernel; and over the extended reals the kernel's output and the reference's result are
  the same array, the scores of Result.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelResult
public import proofs.«01_k».proof.Proof.RefResult
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Over the extended reals the kernel and the reference, from memories that agree on the arguments, end with the same
scores. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelResult.answer m c, ?_, ?_⟩
  · exact (θ_run _ _ _).mono (fun r h c => ⟨(h c).1.trans (Cert.KernelResult.array_eq m c), (h c).2⟩)
      (Cert.KernelIdeal.Value.run_blocks m g)
  · refine (θ_run _ _ _).mono (fun r h c => ⟨(h c).1.trans ?_, (h c).2⟩) (Cert.ReferenceIdeal.Value.run m' g')
    obtain ⟨h0, -, -, -, h4, h5, h6, h7, h8, h9, h10⟩ := hagree c
    exact Cert.ReferenceResult.result_eq (StableHlo.launchContents m' c) _ _ _ _ _ _ _ _ h0 h4 h5 h6 h7 h8 h9 h10

/-- All five claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => (θ_run _ _ _).mono (fun r h => ⟨fun c => (h c).2, sem_eq_zero_of_no_sems rfl r.2⟩)
    (Cert.ReferenceIdeal.Value.run m g),
  trivial, algebraic⟩

end Cert.Proof

end
